-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_in_range [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range [hPre_edges_in_range : Cert.Pre_edges_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_edges_in_range [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_edges_in_range [hReferenceIdeal : Cert.ReferenceIdeal.Facts] [hPre_edges_in_range : Cert.Pre_edges_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_edges_in_range [hKernelIdeal : Cert.KernelIdeal.Facts] [hReferenceIdeal : Cert.ReferenceIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_edges_in_range : Cert.Pre_edges_in_range.Facts),
    quiescent_Kernel (hKernel := hKernel)
    ∧ quiescent_KernelIdeal (hKernelIdeal := hKernelIdeal)
    ∧ quiescent_KernelIdeal_pre_edges_in_range (hKernelIdeal := hKernelIdeal) (hPre_edges_in_range := hPre_edges_in_range)
    ∧ quiescent_ReferenceIdeal (hReferenceIdeal := hReferenceIdeal)
    ∧ quiescent_ReferenceIdeal_pre_edges_in_range (hReferenceIdeal := hReferenceIdeal) (hPre_edges_in_range := hPre_edges_in_range)
    ∧ preserves_Kernel_KernelIdeal
    ∧ algebraic_KernelIdeal_ReferenceIdeal_pre_edges_in_range (hKernelIdeal := hKernelIdeal) (hReferenceIdeal := hReferenceIdeal) (hPre_edges_in_range := hPre_edges_in_range)
-- ==== Pre_edges_in_range.lean ====
abbrev S10000x128 : Shape := ⟨2, ![10000, 128]⟩
abbrev S2x160000 : Shape := ⟨2, ![2, 160000]⟩
abbrev S64x128 : Shape := ⟨2, ![64, 128]⟩
abbrev S16x64 : Shape := ⟨2, ![16, 64]⟩
abbrev S16 : Shape := ⟨1, ![16]⟩
abbrev S1x4 : Shape := ⟨2, ![1, 4]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel

variable [Facts]

def fn {F : FTy → Type} [FloatOps F] (main_arg0 : FVec F S10000x128 .f32) (main_arg1 : IVec S2x160000 32) (main_arg2 : FVec F S64x128 .f32) (main_arg3 : FVec F S64x128 .f32) (main_arg4 : FVec F S64x128 .f32) (main_arg5 : FVec F S64x128 .f32) (main_arg6 : FVec F S16x64 .f32) (main_arg7 : FVec F S16 .f32) (main_arg8 : FVec F S1x4 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  main_v5
-- ==== Kernel.lean ====
abbrev S10000x128 : Shape := ⟨2, ![10000, 128]⟩
abbrev S2x160000 : Shape := ⟨2, ![2, 160000]⟩
abbrev S64x128 : Shape := ⟨2, ![64, 128]⟩
abbrev S16x64 : Shape := ⟨2, ![16, 64]⟩
abbrev S16 : Shape := ⟨1, ![16]⟩
abbrev S1x4 : Shape := ⟨2, ![1, 4]⟩
abbrev S1x160000 : Shape := ⟨2, ![1, 160000]⟩
abbrev S160000 : Shape := ⟨1, ![160000]⟩
abbrev S_ : Shape := ⟨0, ![]⟩
abbrev S10240x10240 : Shape := ⟨2, ![10240, 10240]⟩
abbrev S160000x1 : Shape := ⟨2, ![160000, 1]⟩
abbrev S160000x2 : Shape := ⟨2, ![160000, 2]⟩
abbrev S10240x128 : Shape := ⟨2, ![10240, 128]⟩
abbrev S1024x2048 : Shape := ⟨2, ![1024, 2048]⟩
abbrev S2048x2048 : Shape := ⟨2, ![2048, 2048]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩
abbrev S4 : Shape := ⟨1, ![4]⟩
abbrev S128x64 : Shape := ⟨2, ![128, 64]⟩
abbrev S64x16 : Shape := ⟨2, ![64, 16]⟩
abbrev S1x16 : Shape := ⟨2, ![1, 16]⟩
abbrev S10240x16 : Shape := ⟨2, ![10240, 16]⟩
abbrev S1024x16 : Shape := ⟨2, ![1024, 16]⟩
abbrev S1024x64 : Shape := ⟨2, ![1024, 64]⟩
abbrev S1x1 : Shape := ⟨2, ![1, 1]⟩
abbrev S10000x16 : Shape := ⟨2, ![10000, 16]⟩

abbrev nBuf : Space → Nat
  | .hbm => 65
  | .vmem => 57
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S16x64, .f32⟩
  | .hbm, ⟨7, _⟩ => ⟨S16, .f32⟩
  | .hbm, ⟨8, _⟩ => ⟨S1x4, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S_, .i8⟩
  | .hbm, ⟨14, _⟩ => ⟨S10240x10240, .i8⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S_, .i32⟩
  | .hbm, ⟨23, _⟩ => ⟨S160000, .i32⟩
  | .hbm, ⟨24, _⟩ => ⟨S160000, .i1⟩
  | .hbm, ⟨25, _⟩ => ⟨S_, .i32⟩
  | .hbm, ⟨26, _⟩ => ⟨S160000, .i32⟩
  | .hbm, ⟨27, _⟩ => ⟨S160000, .i32⟩
  | .hbm, ⟨28, _⟩ => ⟨S160000, .i32⟩
  | .hbm, ⟨29, _⟩ => ⟨S160000x1, .i32⟩
  | .hbm, ⟨30, _⟩ => ⟨S160000x1, .i32⟩
  | .hbm, ⟨31, _⟩ => ⟨S160000x2, .i32⟩
  | .hbm, ⟨32, _⟩ => ⟨S_, .i8⟩
  | .hbm, ⟨33, _⟩ => ⟨S160000, .i8⟩
  | .hbm, ⟨34, _⟩ => ⟨S10240x10240, .i8⟩
  | .hbm, ⟨35, _⟩ => ⟨S_, .i32⟩
  | .hbm, ⟨36, _⟩ => ⟨S_, .f32⟩
  | .hbm, ⟨37, _⟩ => ⟨S10240x128, .f32⟩
  | .hbm, ⟨38, _⟩ => ⟨S10240x10240, .i8⟩
  | .hbm, ⟨39, _⟩ => ⟨S10240x128, .f32⟩
  | .hbm, ⟨40, _⟩ => ⟨S10240x128, .f32⟩
  | .hbm, ⟨41, _⟩ => ⟨S10240x128, .f32⟩
  | .hbm, ⟨42, _⟩ => ⟨S10240x128, .f32⟩
  | .hbm, ⟨43, _⟩ => ⟨S10240x128, .f32⟩
  | .hbm, ⟨44, _⟩ => ⟨S10240x128, .f32⟩
  | .hbm, ⟨45, _⟩ => ⟨S_, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S1x4, .f32⟩
  | .hbm, ⟨51, _⟩ => ⟨S1x4, .f32⟩
  | .hbm, ⟨52, _⟩ => ⟨S1x4, .f32⟩
  | .hbm, ⟨53, _⟩ => ⟨S_, .f32⟩
  | .hbm, ⟨54, _⟩ => ⟨S4, .f32⟩
  | .hbm, ⟨55, _⟩ => ⟨S1x4, .f32⟩
  | .hbm, ⟨56, _⟩ => ⟨S1x4, .f32⟩
  | .hbm, ⟨57, _⟩ => ⟨S128x64, .f32⟩
  | .hbm, ⟨58, _⟩ => ⟨S128x64, .f32⟩
  | .hbm, ⟨59, _⟩ => ⟨S128x64, .f32⟩
  | .hbm, ⟨60, _⟩ => ⟨S128x64, .f32⟩
  | .hbm, ⟨61, _⟩ => ⟨S64x16, .f32⟩
  | .hbm, ⟨62, _⟩ => ⟨S1x16, .f32⟩
  | .hbm, ⟨63, _⟩ => ⟨S10240x16, .f32⟩
  | .hbm, ⟨64, _⟩ => ⟨S10000x16, .f32⟩
  | .local _ .vmem, ⟨0, _⟩ => ⟨S1024x2048, .i8⟩
  | .local _ .vmem, ⟨1, _⟩ => ⟨S1024x2048, .i8⟩
  | .local _ .vmem, ⟨2, _⟩ => ⟨S2048x2048, .i8⟩
  | .local _ .vmem, ⟨3, _⟩ => ⟨S2048x2048, .i8⟩
  | .local _ .vmem, ⟨4, _⟩ => ⟨S1024x2048, .i8⟩
  | .local _ .vmem, ⟨5, _⟩ => ⟨S1024x2048, .i8⟩
  | .local _ .vmem, ⟨6, _⟩ => ⟨S2048x128, .f32⟩
  | .local _ .vmem, ⟨7, _⟩ => ⟨S2048x128, .f32⟩
  | .local _ .vmem, ⟨8, _⟩ => ⟨S1024x2048, .i8⟩
  | .local _ .vmem, ⟨9, _⟩ => ⟨S1024x2048, .i8⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x2048, .i32⟩
  | .local _ .vmem, ⟨19, _⟩ => ⟨S1024x2048, .i8⟩
  | .local _ .vmem, ⟨20, _⟩ => ⟨S1024x2048, .i8⟩
  | .local _ .vmem, ⟨21, _⟩ => ⟨S2048x2048, .i8⟩
  | .local _ .vmem, ⟨22, _⟩ => ⟨S2048x2048, .i8⟩
  | .local _ .vmem, ⟨23, _⟩ => ⟨S1024x2048, .i8⟩
  | .local _ .vmem, ⟨24, _⟩ => ⟨S1024x2048, .i8⟩
  | .local _ .vmem, ⟨25, _⟩ => ⟨S1024x2048, .i8⟩
  | .local _ .vmem, ⟨26, _⟩ => ⟨S1024x2048, .i8⟩
  | .local _ .vmem, ⟨27, _⟩ => ⟨S2048x128, .f32⟩
  | .local _ .vmem, ⟨28, _⟩ => ⟨S2048x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x2048, .i32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S128x64, .f32⟩
  | .local _ .vmem, ⟨49, _⟩ => ⟨S128x64, .f32⟩
  | .local _ .vmem, ⟨50, _⟩ => ⟨S128x64, .f32⟩
  | .local _ .vmem, ⟨51, _⟩ => ⟨S128x64, .f32⟩
  | .local _ .vmem, ⟨52, _⟩ => ⟨S64x16, .f32⟩
  | .local _ .vmem, ⟨53, _⟩ => ⟨S1x16, .f32⟩
  | .local _ .vmem, ⟨54, _⟩ => ⟨S1x4, .f32⟩
  | .local _ .vmem, ⟨55, _⟩ => ⟨S1024x16, .f32⟩
  | .local _ .vmem, ⟨56, _⟩ => ⟨S1024x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_call0_v0 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev main_v21_4 : Ref sig .tc := ⟨.hbm, 42, rfl⟩
abbrev main_v22_0 : Ref sig .tc := ⟨.hbm, 43, rfl⟩
abbrev main_v22_1 : Ref sig .tc := ⟨.hbm, 44, rfl⟩
abbrev main_cst : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg10_0 : Ref sig .tc := ⟨.vmem, 51, rfl⟩
abbrev cc2_stg11_0 : Ref sig .tc := ⟨.vmem, 52, rfl⟩
abbrev cc2_stg12_0 : Ref sig .tc := ⟨.vmem, 53, rfl⟩
abbrev cc2_stg13_0 : Ref sig .tc := ⟨.vmem, 54, rfl⟩
abbrev cc2_stg14_0 : Ref sig .tc := ⟨.vmem, 55, rfl⟩
abbrev cc2_stg14_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem12_0 : DmaSem sig := 51
abbrev cc2_sem13_0 : DmaSem sig := 52
abbrev cc2_sem14_0 : DmaSem sig := 53
abbrev cc2_sem14_1 : DmaSem sig := 54

abbrev nD : Nat := 1
abbrev τ : Topo := Topo.v7x

variable {F : FTy → Type} [FloatOps F]

abbrev grid0 : Pipeline.Grid := ⟨3, ![10, 5, 5], ![false, false, false]⟩

def k0_cond4 (i : grid0.Coords) : BitVec 1 :=
  let arg2 : BitVec 32 := BitVec.ofNat 32 (i 2).val
  let c4_i32 : BitVec 32 := 4#32
  let v27 : BitVec 1 := Scalar.cmpi .eq arg2 c4_i32
  let v28 : BitVec 32 := Scalar.extui v27
  let c0_i32_8 : BitVec 32 := 0#32
  let v29 : BitVec 1 := Scalar.cmpi .ne v28 c0_i32_8
  v29

def k0_cond5 (i : grid0.Coords) : BitVec 1 :=
  let arg1 : BitVec 32 := BitVec.ofNat 32 (i 1).val
  let c0_i32_24 : BitVec 32 := 0#32
  let v64 : BitVec 1 := Scalar.cmpi .eq arg1 c0_i32_24
  let v65 : BitVec 32 := Scalar.extui v64
  let c0_i32_25 : BitVec 32 := 0#32
  let v66 : BitVec 1 := Scalar.cmpi .ne v65 c0_i32_25
  v66

def k0_cond6 (i : grid0.Coords) : BitVec 1 :=
  let arg1 : BitVec 32 := BitVec.ofNat 32 (i 1).val
  let c0_i32_26 : BitVec 32 := 0#32
  let v67 : BitVec 1 := Scalar.cmpi .ne arg1 c0_i32_26
  let v68 : BitVec 32 := Scalar.extui v67
  let c0_i32_27 : BitVec 32 := 0#32
  let v69 : BitVec 1 := Scalar.cmpi .ne v68 c0_i32_27
  v69

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev grid1 : Pipeline.Grid := ⟨3, ![10, 5, 5], ![false, false, false]⟩

def k1_cond2 (i : grid1.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def k1_cond3 (i : grid1.Coords) : BitVec 1 :=
  let arg1 : BitVec 32 := BitVec.ofNat 32 (i 1).val
  let c0_i32_22 : BitVec 32 := 0#32
  let v47 : BitVec 1 := Scalar.cmpi .eq arg1 c0_i32_22
  let v48 : BitVec 32 := Scalar.extui v47
  let c0_i32_23 : BitVec 32 := 0#32
  let v49 : BitVec 1 := Scalar.cmpi .ne v48 c0_i32_23
  v49

def k1_cond4 (i : grid1.Coords) : BitVec 1 :=
  let arg1 : BitVec 32 := BitVec.ofNat 32 (i 1).val
  let c0_i32_24 : BitVec 32 := 0#32
  let v50 : BitVec 1 := Scalar.cmpi .ne arg1 c0_i32_24
  let v51 : BitVec 32 := Scalar.extui v50
  let c0_i32_25 : BitVec 32 := 0#32
  let v52 : BitVec 1 := Scalar.cmpi .ne v51 c0_i32_25
  v52

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x2048 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x2048 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x2048 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x4 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S1024x16 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]
-- ==== ReferenceIdeal.lean ====
abbrev S10000x128 : Shape := ⟨2, ![10000, 128]⟩
abbrev S2x160000 : Shape := ⟨2, ![2, 160000]⟩
abbrev S64x128 : Shape := ⟨2, ![64, 128]⟩
abbrev S16x64 : Shape := ⟨2, ![16, 64]⟩
abbrev S16 : Shape := ⟨1, ![16]⟩
abbrev S1x4 : Shape := ⟨2, ![1, 4]⟩
abbrev S1x160000 : Shape := ⟨2, ![1, 160000]⟩
abbrev S160000 : Shape := ⟨1, ![160000]⟩
abbrev S_ : Shape := ⟨0, ![]⟩
abbrev S10000x10000 : Shape := ⟨2, ![10000, 10000]⟩
abbrev S160000x1 : Shape := ⟨2, ![160000, 1]⟩
abbrev S160000x2 : Shape := ⟨2, ![160000, 2]⟩
abbrev S10000 : Shape := ⟨1, ![10000]⟩
abbrev S10000x1 : Shape := ⟨2, ![10000, 1]⟩
abbrev S128x64 : Shape := ⟨2, ![128, 64]⟩
abbrev S10000x64 : Shape := ⟨2, ![10000, 64]⟩
abbrev S4 : Shape := ⟨1, ![4]⟩
abbrev S1x1 : Shape := ⟨2, ![1, 1]⟩
abbrev S64x16 : Shape := ⟨2, ![64, 16]⟩
abbrev S10000x16 : Shape := ⟨2, ![10000, 16]⟩
abbrev S1x16 : Shape := ⟨2, ![1, 16]⟩

abbrev nBuf : Space → Nat
  | .hbm => 207
  | .vmem => 0
  | .smem => 0
  | _ => 0

abbrev hbmTy0_0 (i : Nat) : BufTy := match i % 128 with
  | 0 => ⟨S10000x128, .f32⟩
  | 1 => ⟨S2x160000, .i32⟩
  | 2 => ⟨S64x128, .f32⟩
  | 3 => ⟨S64x128, .f32⟩
  | 4 => ⟨S64x128, .f32⟩
  | 5 => ⟨S64x128, .f32⟩
  | 6 => ⟨S16x64, .f32⟩
  | 7 => ⟨S16, .f32⟩
  | 8 => ⟨S1x4, .f32⟩
  | 9 => ⟨S1x160000, .i32⟩
  | 10 => ⟨S160000, .i32⟩
  | 11 => ⟨S1x160000, .i32⟩
  | 12 => ⟨S160000, .i32⟩
  | 13 => ⟨S_, .f32⟩
  | 14 => ⟨S10000x10000, .f32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S160000x1, .i32⟩
  | 31 => ⟨S160000x2, .i32⟩
  | 32 => ⟨S_, .f32⟩
  | 33 => ⟨S160000, .f32⟩
  | 34 => ⟨S10000x10000, .f32⟩
  | 35 => ⟨S10000x10000, .i32⟩
  | 36 => ⟨S10000x10000, .i32⟩
  | 37 => ⟨S_, .i32⟩
  | 38 => ⟨S10000x10000, .i32⟩
  | 39 => ⟨S10000x10000, .i32⟩
  | 40 => ⟨S10000x10000, .i1⟩
  | 41 => ⟨S_, .f32⟩
  | 42 => ⟨S10000x10000, .f32⟩
  | 43 => ⟨S10000x10000, .i1⟩
  | 44 => ⟨S10000x10000, .i1⟩
  | 45 => ⟨S10000x10000, .i1⟩
  | 46 => ⟨S10000x10000, .i1⟩
  | 47 => ⟨S10000x10000, .f32⟩
  | 48 => ⟨S10000x10000, .f32⟩
  | 49 => ⟨S_, .f32⟩
  | 50 => ⟨S10000x10000, .f32⟩
  | 51 => ⟨S10000x10000, .i1⟩
  | 52 => ⟨S10000x10000, .i1⟩
  | 53 => ⟨S10000x10000, .i1⟩
  | 54 => ⟨S10000x10000, .i1⟩
  | 55 => ⟨S10000x10000, .f32⟩
  | 56 => ⟨S10000x10000, .f32⟩
  | 57 => ⟨S_, .f32⟩
  | 58 => ⟨S10000x10000, .f32⟩
  | 59 => ⟨S10000x10000, .i1⟩
  | 60 => ⟨S10000x10000, .i1⟩
  | 61 => ⟨S10000x10000, .i1⟩
  | 62 => ⟨S10000x10000, .f32⟩
  | 63 => ⟨S10000x10000, .f32⟩
  | 64 => ⟨S10000x10000, .f32⟩
  | 65 => ⟨S_, .f32⟩
  | 66 => ⟨S10000, .f32⟩
  | 67 => ⟨S10000x1, .f32⟩
  | 68 => ⟨S10000x128, .f32⟩
  | 69 => ⟨S_, .f32⟩
  | 70 => ⟨S10000x1, .f32⟩
  | 71 => ⟨S10000x1, .i1⟩
  | 72 => ⟨S_, .f32⟩
  | 73 => ⟨S10000x1, .f32⟩
  | 74 => ⟨S10000x1, .f32⟩
  | 75 => ⟨S10000x128, .f32⟩
  | 76 => ⟨S10000x128, .f32⟩
  | 77 => ⟨S_, .f32⟩
  | 78 => ⟨S_, .f32⟩
  | 79 => ⟨S10000x128, .i1⟩
  | 80 => ⟨S10000x128, .f32⟩
  | 81 => ⟨S10000x128, .f32⟩
  | 82 => ⟨S_, .f32⟩
  | 83 => ⟨S10000, .f32⟩
  | 84 => ⟨S10000x1, .f32⟩
  | 85 => ⟨S10000x128, .f32⟩
  | 86 => ⟨S_, .f32⟩
  | 87 => ⟨S10000x1, .f32⟩
  | 88 => ⟨S10000x1, .i1⟩
  | 89 => ⟨S_, .f32⟩
  | 90 => ⟨S10000x1, .f32⟩
  | 91 => ⟨S10000x1, .f32⟩
  | 92 => ⟨S10000x128, .f32⟩
  | 93 => ⟨S10000x128, .f32⟩
  | 94 => ⟨S_, .f32⟩
  | 95 => ⟨S_, .f32⟩
  | 96 => ⟨S10000x128, .i1⟩
  | 97 => ⟨S10000x128, .f32⟩
  | 98 => ⟨S10000x128, .f32⟩
  | 99 => ⟨S_, .f32⟩
  | 100 => ⟨S10000, .f32⟩
  | 101 => ⟨S10000x1, .f32⟩
  | 102 => ⟨S10000x128, .f32⟩
  | 103 => ⟨S_, .f32⟩
  | 104 => ⟨S10000x1, .f32⟩
  | 105 => ⟨S10000x1, .i1⟩
  | 106 => ⟨S_, .f32⟩
  | 107 => ⟨S10000x1, .f32⟩
  | 108 => ⟨S10000x1, .f32⟩
  | 109 => ⟨S10000x128, .f32⟩
  | 110 => ⟨S10000x128, .f32⟩
  | 111 => ⟨S_, .f32⟩
  | 112 => ⟨S_, .f32⟩
  | 113 => ⟨S10000x128, .i1⟩
  | 114 => ⟨S10000x128, .f32⟩
  | 115 => ⟨S10000x128, .f32⟩
  | 116 => ⟨S128x64, .f32⟩
  | 117 => ⟨S10000x64, .f32⟩
  | 118 => ⟨S10000x64, .f32⟩
  | 119 => ⟨S10000x64, .f32⟩
  | 120 => ⟨S_, .f32⟩
  | 121 => ⟨S10000x64, .f32⟩
  | 122 => ⟨S10000x64, .f32⟩
  | 123 => ⟨S_, .f32⟩
  | 124 => ⟨S10000x64, .f32⟩
  | 125 => ⟨S10000x64, .f32⟩
  | 126 => ⟨S128x64, .f32⟩
  | 127 => ⟨S10000x64, .f32⟩
  | _ => ⟨S10000x128, .f32⟩

abbrev hbmTy0_1 (i : Nat) : BufTy := match i % 128 with
  | 0 => ⟨S10000x64, .f32⟩
  | 1 => ⟨S10000x64, .f32⟩
  | 2 => ⟨S_, .f32⟩
  | 3 => ⟨S10000x64, .f32⟩
  | 4 => ⟨S10000x64, .f32⟩
  | 5 => ⟨S_, .f32⟩
  | 6 => ⟨S10000x64, .f32⟩
  | 7 => ⟨S10000x64, .f32⟩
  | 8 => ⟨S128x64, .f32⟩
  | 9 => ⟨S10000x64, .f32⟩
  | 10 => ⟨S10000x64, .f32⟩
  | 11 => ⟨S10000x64, .f32⟩
  | 12 => ⟨S_, .f32⟩
  | 13 => ⟨S10000x64, .f32⟩
  | 14 => ⟨S10000x64, .f32⟩
  | 15 => ⟨S_, .f32⟩
  | 16 => ⟨S10000x64, .f32⟩
  | 17 => ⟨S10000x64, .f32⟩
  | 18 => ⟨S128x64, .f32⟩
  | 19 => ⟨S10000x64, .f32⟩
  | 20 => ⟨S10000x64, .f32⟩
  | 21 => ⟨S10000x64, .f32⟩
  | 22 => ⟨S_, .f32⟩
  | 23 => ⟨S10000x64, .f32⟩
  | 24 => ⟨S10000x64, .f32⟩
  | 25 => ⟨S_, .f32⟩
  | 26 => ⟨S10000x64, .f32⟩
  | 27 => ⟨S10000x64, .f32⟩
  | 28 => ⟨S_, .f32⟩
  | 29 => ⟨S4, .f32⟩
  | 30 => ⟨S_, .f32⟩
  | 31 => ⟨S4, .f32⟩
  | 32 => ⟨S4, .f32⟩
  | 33 => ⟨S1x4, .f32⟩
  | 34 => ⟨S1x4, .f32⟩
  | 35 => ⟨S1x4, .f32⟩
  | 36 => ⟨S_, .f32⟩
  | 37 => ⟨S4, .f32⟩
  | 38 => ⟨S1x4, .f32⟩
  | 39 => ⟨S1x4, .f32⟩
  | 40 => ⟨S1x1, .f32⟩
  | 41 => ⟨S_, .f32⟩
  | 42 => ⟨S10000x64, .f32⟩
  | 43 => ⟨S10000x64, .f32⟩
  | 44 => ⟨S1x1, .f32⟩
  | 45 => ⟨S_, .f32⟩
  | 46 => ⟨S10000x64, .f32⟩
  | 47 => ⟨S10000x64, .f32⟩
  | 48 => ⟨S10000x64, .f32⟩
  | 49 => ⟨S1x1, .f32⟩
  | 50 => ⟨S_, .f32⟩
  | 51 => ⟨S10000x64, .f32⟩
  | 52 => ⟨S10000x64, .f32⟩
  | 53 => ⟨S10000x64, .f32⟩
  | 54 => ⟨S1x1, .f32⟩
  | 55 => ⟨S_, .f32⟩
  | 56 => ⟨S10000x64, .f32⟩
  | 57 => ⟨S10000x64, .f32⟩
  | 58 => ⟨S10000x64, .f32⟩
  | 59 => ⟨S64x16, .f32⟩
  | 60 => ⟨S10000x16, .f32⟩
  | 61 => ⟨S1x16, .f32⟩
  | 62 => ⟨S10000x16, .f32⟩
  | 63 => ⟨S10000x16, .f32⟩
  | 64 => ⟨S_, .f32⟩
  | 65 => ⟨S10000, .f32⟩
  | 66 => ⟨S_, .f32⟩
  | 67 => ⟨S10000, .f32⟩
  | 68 => ⟨S10000, .f32⟩
  | 69 => ⟨S10000x1, .f32⟩
  | 70 => ⟨S10000x16, .f32⟩
  | 71 => ⟨S10000x16, .f32⟩
  | 72 => ⟨S10000x16, .f32⟩
  | 73 => ⟨S_, .f32⟩
  | 74 => ⟨S10000, .f32⟩
  | 75 => ⟨S10000x1, .f32⟩
  | 76 => ⟨S10000x1, .f32⟩
  | 77 => ⟨S10000x16, .f32⟩
  | 78 => ⟨S10000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v65 : Ref sig .tc := ⟨.hbm, 98, rfl⟩
abbrev main_cst_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_cst_18 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_19 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_v81 : Ref sig .tc := ⟨.hbm, 122, rfl⟩
abbrev main_cst_21 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_22 : Ref sig .tc := ⟨.hbm, 130, rfl⟩
abbrev main_v88 : Ref sig .tc := ⟨.hbm, 131, rfl⟩
abbrev main_v89 : Ref sig .tc := ⟨.hbm, 132, rfl⟩
abbrev main_cst_23 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_24 : Ref sig .tc := ⟨.hbm, 140, rfl⟩
abbrev main_v96 : Ref sig .tc := ⟨.hbm, 141, rfl⟩
abbrev main_v97 : Ref sig .tc := ⟨.hbm, 142, rfl⟩
abbrev main_cst_25 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_26 : Ref sig .tc := ⟨.hbm, 150, rfl⟩
abbrev main_v104 : Ref sig .tc := ⟨.hbm, 151, rfl⟩
abbrev main_v105 : Ref sig .tc := ⟨.hbm, 152, rfl⟩
abbrev main_cst_27 : Ref sig .tc := ⟨.hbm, 153, rfl⟩
abbrev main_v106 : Ref sig .tc := ⟨.hbm, 154, rfl⟩
abbrev main_v107 : Ref sig .tc := ⟨.hbm, 155, rfl⟩
abbrev main_cst_28 : Ref sig .tc := ⟨.hbm, 156, rfl⟩
abbrev main_v108 : Ref sig .tc := ⟨.hbm, 157, rfl⟩
abbrev main_cst_29 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_30 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_call3_cst : Ref sig .tc := ⟨.hbm, 192, rfl⟩
abbrev main_call3_v0 : Ref sig .tc := ⟨.hbm, 193, rfl⟩
abbrev main_call3_cst_0 : Ref sig .tc := ⟨.hbm, 194, rfl⟩
abbrev main_call3_v1 : Ref sig .tc := ⟨.hbm, 195, rfl⟩
abbrev main_call3_v2 : Ref sig .tc := ⟨.hbm, 196, rfl⟩
abbrev main_call3_v3 : Ref sig .tc := ⟨.hbm, 197, rfl⟩
abbrev main_call3_v4 : Ref sig .tc := ⟨.hbm, 198, rfl⟩
abbrev main_call3_v5 : Ref sig .tc := ⟨.hbm, 199, rfl⟩
abbrev main_call3_v6 : Ref sig .tc := ⟨.hbm, 200, rfl⟩
abbrev main_call3_cst_1 : Ref sig .tc := ⟨.hbm, 201, rfl⟩
abbrev main_call3_v7 : Ref sig .tc := ⟨.hbm, 202, rfl⟩
abbrev main_call3_v8 : Ref sig .tc := ⟨.hbm, 203, rfl⟩
abbrev main_call3_v9 : Ref sig .tc := ⟨.hbm, 204, rfl⟩
abbrev main_call3_v10 : Ref sig .tc := ⟨.hbm, 205, rfl⟩
abbrev main_v141 : Ref sig .tc := ⟨.hbm, 206, rfl⟩

abbrev nD : Nat := 1
abbrev τ : Topo := Topo.v7x

variable {F : FTy → Type} [FloatOps F]
-- ==== Proof.First.Body.lean ====
/- The first hop's kernel body, run once on any staging buffers: what it leaves in the accumulator and in the five
   output blocks, as functions of the input blocks, the accumulator and the output blocks it found. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A store through the whole-shape rectangle, made last, leaves its payload whatever was there. -/
theorem read_stored {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- The two zero offsets of a load or store of a whole block. -/
theorem zeros2 : (![0, 0] : Fin 2 → Nat) = fun _ => 0 := by funext a; fin_cases a <;> rfl

/-- The word deciding whether the accumulator is reset: the contraction index is zero. -/
abbrev resets0 (i : grid0.Coords) : Prop :=
  (Scalar.cmpi .ne (Scalar.extui (Scalar.cmpi .eq (BitVec.ofNat 32 (i 2).val) 0#32)) 0#32) = 1#1

/-- The floor division by 2048 of the row block's first row, as the kernel computes it. -/
abbrev diagBlock0 (i : grid0.Coords) : BitVec 32 :=
  Scalar.select (Scalar.andi (Scalar.cmpi .ne (Scalar.subi (Scalar.extui (Scalar.cmpi .sgt (Scalar.muli (BitVec.ofNat 32 (i 0).val) 1024#32) 0#32)) (Scalar.extui (Scalar.cmpi .slt (Scalar.muli (BitVec.ofNat 32 (i 0).val) 1024#32) 0#32))) (Scalar.subi (Scalar.extui (Scalar.cmpi .sgt 2048#32 0#32)) (Scalar.extui (Scalar.cmpi .slt 2048#32 0#32)))) (Scalar.cmpi .ne (Scalar.remsi (Scalar.muli (BitVec.ofNat 32 (i 0).val) 1024#32) 2048#32) 0#32)) (Scalar.subi (Scalar.divsi (Scalar.muli (BitVec.ofNat 32 (i 0).val) 1024#32) 2048#32) 1#32) (Scalar.divsi (Scalar.muli (BitVec.ofNat 32 (i 0).val) 1024#32) 2048#32)

/-- The word deciding that the left block does not meet the diagonal. -/
abbrev off0 (i : grid0.Coords) : Prop :=
  (Scalar.cmpi .ne (Scalar.extui (Scalar.cmpi .ne (BitVec.ofNat 32 (i 2).val) (diagBlock0 i))) 0#32) = 1#1

/-- The word deciding that the left block meets the diagonal. -/
abbrev diag0 (i : grid0.Coords) : Prop :=
  (Scalar.cmpi .ne (Scalar.extui (Scalar.cmpi .eq (BitVec.ofNat 32 (i 2).val) (diagBlock0 i))) 0#32) = 1#1

/-- The accumulator after the body: reset at the first contraction step, then the product of the two blocks added (the
    left block with its diagonal cleared where it meets the diagonal). -/
def acc0 (i : grid0.Coords) (x0 : Vec F S1024x2048 .i8) (x1 : Vec F S2048x2048 .i8) (a : Vec F S1024x2048 .i32) :
    Vec F S1024x2048 .i32 :=
  if diag0 i then k0_pay3 i x0 (if resets0 i then k0_pay1 else a) x1
  else k0_pay2 (if resets0 i then k0_pay1 else a) x0 x1

/-- The second frontier's block after the body: written at the last contraction step. -/
def front0 (i : grid0.Coords) (x2 : Vec F S1024x2048 .i8) (a : Vec F S1024x2048 .i32) (d : Vec F S1024x2048 .i8) :
    Vec F S1024x2048 .i8 :=
  if k0_cond4 i = 1#1 then k0_pay15 (BitVec.ofNat 32 (i 0).val) (BitVec.ofNat 32 (i 1).val) a x2 else d

/-- The first hop's sums after the body. -/
def sum0 (i : grid0.Coords) (x2 : Vec F S1024x2048 .i8) (x3 : Vec F S2048x128 .f32) (d : Vec F S1024x128 .f32) :
    Vec F S1024x128 .f32 :=
  if k0_cond4 i = 1#1 then
    if k0_cond5 i = 1#1 then k0_pay17 (BitVec.ofNat 32 (i 0).val) (BitVec.ofNat 32 (i 1).val) x2 x3
    else k0_pay4 (k0_pay17 (BitVec.ofNat 32 (i 0).val) (BitVec.ofNat 32 (i 1).val) x2 x3) d
  else d

/-- The first hop's counts after the body. -/
def cnt0 (i : grid0.Coords) (x2 : Vec F S1024x2048 .i8) (d : Vec F S1024x128 .f32) : Vec F S1024x128 .f32 :=
  if k0_cond4 i = 1#1 then
    if k0_cond5 i = 1#1 then k0_pay19 (BitVec.ofNat 32 (i 0).val) (BitVec.ofNat 32 (i 1).val) x2
    else k0_pay5 (k0_pay18 (BitVec.ofNat 32 (i 0).val) (BitVec.ofNat 32 (i 1).val) x2) d
  else d

/-- The second hop's sums after the body. -/
def sum0' (i : grid0.Coords) (x2 : Vec F S1024x2048 .i8) (x3 : Vec F S2048x128 .f32) (a : Vec F S1024x2048 .i32)
    (d : Vec F S1024x128 .f32) : Vec F S1024x128 .f32 :=
  if k0_cond4 i = 1#1 then
    if k0_cond5 i = 1#1 then k0_pay13 (BitVec.ofNat 32 (i 0).val) (BitVec.ofNat 32 (i 1).val) a x2 x3
    else k0_pay6 (k0_pay13 (BitVec.ofNat 32 (i 0).val) (BitVec.ofNat 32 (i 1).val) a x2 x3) d
  else d

/-- The second hop's counts after the body. -/
def cnt0' (i : grid0.Coords) (x2 : Vec F S1024x2048 .i8) (a : Vec F S1024x2048 .i32) (d : Vec F S1024x128 .f32) :
    Vec F S1024x128 .f32 :=
  if k0_cond4 i = 1#1 then
    if k0_cond5 i = 1#1 then k0_pay20 (BitVec.ofNat 32 (i 0).val) (BitVec.ofNat 32 (i 1).val) a x2
    else k0_pay7 (k0_pay14 (BitVec.ofNat 32 (i 0).val) (BitVec.ofNat 32 (i 1).val) a x2) d
  else d

set_option maxHeartbeats 8000000 in
/-- The body run on whole buffers: the inputs are left as they were, the accumulator and the outputs as the functions
    above say. -/
theorem body0 (c : Dev nD) (i : grid0.Coords)
    (hoff : off0 i ↔ ¬diag0 i) (h6 : k0_cond6 i = 1#1 ↔ ¬k0_cond5 i = 1#1)
    (arg3 : Memref sig .tc .vmem S1024x2048 .i8) (harg3 : arg3.IsWhole) (arg4 : Memref sig .tc .vmem S2048x2048 .i8) (harg4 : arg4.IsWhole) (arg5 : Memref sig .tc .vmem S1024x2048 .i8) (harg5 : arg5.IsWhole) (arg6 : Memref sig .tc .vmem S2048x128 .f32) (harg6 : arg6.IsWhole) (arg7 : Memref sig .tc .vmem S1024x2048 .i8) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x2048 .i32) (harg12 : arg12.IsWhole)
    (x0 : Vec F S1024x2048 .i8) (x1 : Vec F S2048x2048 .i8) (x2 : Vec F S1024x2048 .i8) (x3 : Vec F S2048x128 .f32)
    (d4 : Vec F S1024x2048 .i8) (d5 d6 d7 d8 : Vec F S1024x128 .f32) (a : Vec F S1024x2048 .i32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare d4 ∗ owns (c : Thread nD τ) arg8 fullShare d5 ∗ owns (c : Thread nD τ) arg9 fullShare d6 ∗ owns (c : Thread nD τ) arg10 fullShare d7 ∗ owns (c : Thread nD τ) arg11 fullShare d8 ∗ owns (c : Thread nD τ) arg12 fullShare a
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (front0 i x2 (acc0 i x0 x1 a) d4)
            ∗ owns (c : Thread nD τ) arg8 fullShare (sum0 i x2 x3 d5)
            ∗ owns (c : Thread nD τ) arg9 fullShare (cnt0 i x2 d6)
            ∗ owns (c : Thread nD τ) arg10 fullShare (sum0' i x2 x3 (acc0 i x0 x1 a) d7)
            ∗ owns (c : Thread nD τ) arg11 fullShare (cnt0' i x2 (acc0 i x0 x1 a) d8)
            ∗ owns (c : Thread nD τ) arg12 fullShare (acc0 i x0 x1 a)) -∗ K ⟨⟩))
      ⊢ wp frame (wpE (defs₀ (F := F)) Variants.none c none) E (cc0__hop_pass_kernel i arg3 harg3 arg4 harg4 arg5 harg5 arg6 harg6 arg7 harg7 arg8 harg8 arg9 harg9 arg10 harg10 arg11 harg11 arg12 harg12) K := by
  simp only [cc0__hop_pass_kernel_eq_skeleton]; unfold cc0__hop_pass_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0
  by_cases hc0 : resets0 i <;> by_cases hc2 : diag0 i <;> by_cases hc3 : k0_cond4 i = 1#1 <;>
    by_cases hc4 : k0_cond5 i = 1#1
  all_goals
    have hc1 : if diag0 i then ¬off0 i else off0 i := by
      first | rw [if_pos hc2]; exact fun h => hoff.1 h hc2 | rw [if_neg hc2]; exact hoff.2 hc2
    have hc5 : if k0_cond5 i = 1#1 then ¬k0_cond6 i = 1#1 else k0_cond6 i = 1#1 := by
      first | rw [if_pos hc4]; exact fun h => h6.1 h hc4 | rw [if_neg hc4]; exact h6.2 hc4
    first | rw [if_pos hc2] at hc1 | rw [if_neg hc2] at hc1
    first | rw [if_pos hc4] at hc5 | rw [if_neg hc4] at hc5
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      sl_unfold_run_names
      first | rw [read_stored _ _ zeros2] | rw [harg7.read_unread]
      simp (disch := decide) only [front0, sum0, cnt0, sum0', cnt0', acc0, hc0, hc2, hc3, hc4, eq_self, if_true, if_false, View.readAt_eq_ld, Memref.IsWhole.read_unread, View.ld_unit_lit', View.readCov_unit_lit', View.readCov_cons_unit_lit'] <;>
        repeat first | rw [if_pos hc2] | rw [if_neg hc2] | rw [if_pos hc0] | rw [if_neg hc0]
    isplitl [H5]
    · iexists _; isplitr
      swap; · iexact H5
      ipureintro
      sl_unfold_run_names
      first | rw [read_stored _ _ zeros2] | rw [harg8.read_unread]
      simp (disch := decide) only [front0, sum0, cnt0, sum0', cnt0', acc0, hc0, hc2, hc3, hc4, eq_self, if_true, if_false, View.readAt_eq_ld, Memref.IsWhole.read_unread, View.ld_unit_lit', View.readCov_unit_lit', View.readCov_cons_unit_lit'] <;>
        repeat first | rw [if_pos hc2] | rw [if_neg hc2] | rw [if_pos hc0] | rw [if_neg hc0]
    isplitl [H6]
    · iexists _; isplitr
      swap; · iexact H6
      ipureintro
      sl_unfold_run_names
      first | rw [read_stored _ _ zeros2] | rw [harg9.read_unread]
      simp (disch := decide) only [front0, sum0, cnt0, sum0', cnt0', acc0, hc0, hc2, hc3, hc4, eq_self, if_true, if_false, View.readAt_eq_ld, Memref.IsWhole.read_unread, View.ld_unit_lit', View.readCov_unit_lit', View.readCov_cons_unit_lit'] <;>
        repeat first | rw [if_pos hc2] | rw [if_neg hc2] | rw [if_pos hc0] | rw [if_neg hc0]
    isplitl [H7]
    · iexists _; isplitr
      swap; · iexact H7
      ipureintro
      sl_unfold_run_names
      first | rw [read_stored _ _ zeros2] | rw [harg10.read_unread]
      simp (disch := decide) only [front0, sum0, cnt0, sum0', cnt0', acc0, hc0, hc2, hc3, hc4, eq_self, if_true, if_false, View.readAt_eq_ld, Memref.IsWhole.read_unread, View.ld_unit_lit', View.readCov_unit_lit', View.readCov_cons_unit_lit'] <;>
        repeat first | rw [if_pos hc2] | rw [if_neg hc2] | rw [if_pos hc0] | rw [if_neg hc0]
    isplitl [H8]
    · iexists _; isplitr
      swap; · iexact H8
      ipureintro
      sl_unfold_run_names
      first | rw [read_stored _ _ zeros2] | rw [harg11.read_unread]
      simp (disch := decide) only [front0, sum0, cnt0, sum0', cnt0', acc0, hc0, hc2, hc3, hc4, eq_self, if_true, if_false, View.readAt_eq_ld, Memref.IsWhole.read_unread, View.ld_unit_lit', View.readCov_unit_lit', View.readCov_cons_unit_lit'] <;>
        repeat first | rw [if_pos hc2] | rw [if_neg hc2] | rw [if_pos hc0] | rw [if_neg hc0]
    iexists _; isplitr
    swap; · iexact HS0
    ipureintro
    sl_unfold_run_names
    first | rw [read_stored _ _ zeros2] | rw [harg12.read_unread]
    simp (disch := decide) only [front0, sum0, cnt0, sum0', cnt0', acc0, hc0, hc2, hc3, hc4, eq_self, if_true, if_false, View.readAt_eq_ld, Memref.IsWhole.read_unread, View.ld_unit_lit', View.readCov_unit_lit', View.readCov_cons_unit_lit'] <;>
        repeat first | rw [if_pos hc2] | rw [if_neg hc2] | rw [if_pos hc0] | rw [if_neg hc0]

end Cert.KernelIdeal.Hop

end
-- ==== Proof.First.Region.lean ====
/- The first hop's region: at the contents its arrays have when it is entered, what every staging buffer holds after
   every grid point, and the body's obligation at every point. -/
module

public import proofs.«01_k».proof.Proof.First.Body
public import Idealize.ShloMosaic.Lib.Pipeline.RegionsLoop
public import Idealize.ShloMosaic.Lib.Pipeline.FrameSuffix
public import Idealize.ShloMosaic.Lib.Pipeline.TableIdle

@[expose] public section

set_option maxRecDepth 16384

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The values a recursion over the grid points passes through: `trail step a n` is the value after point `n`, `a` the
    value before point 0. -/
def trail {α : Type} (step : ℕ → α → α) (a : α) : ℕ → α
  | 0 => step 0 a
  | n + 1 => step (n + 1) (trail step a n)

/-- After some points the trail is the last one's step. -/
theorem trail_pos {α : Type} (step : ℕ → α → α) (a : α) (n : ℕ) (h : n ≠ 0) :
    trail step a n = step n (trail step a (n - 1)) := by
  cases n with
  | zero => exact absurd rfl h
  | succ n => rfl

/-- Whatever the value before point 0, the value after a point is the point's step of SOMETHING. -/
theorem trail_eq_step {α : Type} (step : ℕ → α → α) (a : α) (n : ℕ) : ∃ b, trail step a n = step n b := by
  cases n with
  | zero => exact ⟨_, rfl⟩
  | succ n => exact ⟨_, rfl⟩

/-- Point number `n` of the grid. -/
def pt0 (n : ℕ) : Fin cfg0.N := ⟨n % 250, Nat.lt_of_lt_of_eq (Nat.mod_lt _ (by decide)) (N_0).symm⟩

/-- A point's number names the point. -/
theorem pt0_val (t : Fin cfg0.N) : pt0 t.val = t :=
  Fin.ext (Nat.mod_eq_of_lt (Nat.lt_of_lt_of_eq t.isLt N_0))

/-! ## The body's conditions at a point -/

/-- The grid's coordinates at a point: row block, column block, contraction step. -/
theorem coords0 (t : Fin cfg0.N) : (grid0.coords t 0).val = t.val / 25 % 10 ∧ (grid0.coords t 1).val = t.val / 5 % 5
    ∧ (grid0.coords t 2).val = t.val / 1 % 5 :=
  ⟨Pipeline.Grid.coords_val t 0 (by decide) rfl, Pipeline.Grid.coords_val t 1 (by decide) rfl,
    Pipeline.Grid.coords_val t 2 (by decide) rfl⟩

/-- The accumulator is reset at the first contraction step. -/
theorem resets0_iff (t : Fin cfg0.N) : resets0 (grid0.coords t) ↔ t.val % 5 = 0 := by
  have ht : t.val < 250 := Nat.lt_of_lt_of_eq t.isLt N_0
  obtain ⟨e0, e1, e2⟩ := coords0 t
  simp only [resets0, e0, e1, e2]
  word_cmp

/-- The outputs are written at the last contraction step. -/
theorem last0_iff (t : Fin cfg0.N) : k0_cond4 (grid0.coords t) = 1#1 ↔ t.val % 5 = 4 := by
  have ht : t.val < 250 := Nat.lt_of_lt_of_eq t.isLt N_0
  obtain ⟨e0, e1, e2⟩ := coords0 t
  simp only [k0_cond4, e0, e1, e2]
  word_cmp

/-- The outputs are reset in the first column block, -/
theorem left0_iff (t : Fin cfg0.N) : k0_cond5 (grid0.coords t) = 1#1 ↔ t.val / 5 % 5 = 0 := by
  have ht : t.val < 250 := Nat.lt_of_lt_of_eq t.isLt N_0
  obtain ⟨e0, e1, e2⟩ := coords0 t
  simp only [k0_cond5, e0, e1, e2]
  word_cmp

/-- and added into in the others. -/
theorem right0_iff (t : Fin cfg0.N) : k0_cond6 (grid0.coords t) = 1#1 ↔ 1 ≤ t.val / 5 % 5 := by
  have ht : t.val < 250 := Nat.lt_of_lt_of_eq t.isLt N_0
  obtain ⟨e0, e1, e2⟩ := coords0 t
  simp only [k0_cond6, e0, e1, e2]
  word_cmp

/-- The left block meets the diagonal where the row block's rows are among the contraction step's columns. -/
theorem diag0_iff : ∀ t : Fin cfg0.N, diag0 (grid0.coords t) ↔ t.val / 50 % 5 = t.val % 5 :=
  (by decide +kernel : ∀ t : Fin grid0.N, diag0 (grid0.coords t) ↔ t.val / 50 % 5 = t.val % 5)

/-- And does not meet it elsewhere. -/
theorem off0_iff : ∀ t : Fin cfg0.N, off0 (grid0.coords t) ↔ ¬t.val / 50 % 5 = t.val % 5 :=
  (by decide +kernel : ∀ t : Fin grid0.N, off0 (grid0.coords t) ↔ ¬t.val / 50 % 5 = t.val % 5)

/-- The three conditions on the column block and the contraction step, together. -/
theorem right0_iff_not (t : Fin cfg0.N) : k0_cond6 (grid0.coords t) = 1#1 ↔ ¬k0_cond5 (grid0.coords t) = 1#1 := by
  rw [right0_iff, left0_iff]; omega

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, if the body leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, if the body leaves it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, if the body leaves it there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, if the body leaves it there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers and the accumulator -/

/-- The staging buffers at a point, each the whole of its buffer. -/
abbrev ms0_0 (t : Fin cfg0.N) : Memref sig .tc .vmem S1024x2048 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
/-- The accumulator's buffer. -/
abbrev scM0 : Memref sig .tc .vmem S1024x2048 .i32 := Memref.whole cc0_scratch0

/-- The class's invariant with the accumulator's buffer taken out. -/
theorem inv0_eq (c : Dev nD) :
    (Pipeline.ΦA spec0 c : sProp 𝕄)
      = iprop(iprop((∃ d, owns (c : Thread nD τ) scM0 fullShare d) ∗ Pipeline.scopedRestBut spec0 c [cc0_scratch0]) ∗ (∃ r, prngReg c r)) := by
  unfold Pipeline.ΦA; rw [scopedRest0_split]; simp only [scM0, owns_whole]; try rfl

/-! ## What the buffers hold after each point -/

/-- The accumulator after point `n`. -/
def accs0 (c : Dev nD) : ℕ → Vec F S1024x2048 .i32 :=
  trail (fun n a => acc0 (grid0.coords (pt0 n)) (iblk0 V c 0 (pt0 n)) (iblk0 V c 1 (pt0 n)) a) k0_pay1

/-- A reset accumulator does not remember. -/
theorem acc0_reset (i : grid0.Coords) (h : resets0 i) (x0 : Vec F S1024x2048 .i8) (x1 : Vec F S2048x2048 .i8)
    (a b : Vec F S1024x2048 .i32) : acc0 i x0 x1 a = acc0 i x0 x1 b := by
  unfold acc0; rw [if_pos h, if_pos h]

/-- The second frontier's block after point `t` (written at the last contraction step). -/
def outs0_4 (c : Dev nD) (t : Fin cfg0.N) : Vec F S1024x2048 .i8 :=
  k0_pay15 (BitVec.ofNat 32 (grid0.coords t 0).val) (BitVec.ofNat 32 (grid0.coords t 1).val) (accs0 V c t.val) (iblk0 V c 2 t)

/-- Output 5, the first hop's sums, after point `n`. -/
def outs0_5 (c : Dev nD) : ℕ → Vec F S1024x128 .f32 :=
  trail (fun n d => sum0 (grid0.coords (pt0 n)) (iblk0 V c 2 (pt0 n)) (iblk0 V c 3 (pt0 n)) d) (constant S1024x128 .f32 0x00000000#32)

/-- Output 6, the first hop's counts, after point `n`. -/
def outs0_6 (c : Dev nD) : ℕ → Vec F S1024x128 .f32 :=
  trail (fun n d => cnt0 (grid0.coords (pt0 n)) (iblk0 V c 2 (pt0 n)) d) (constant S1024x128 .f32 0x00000000#32)

/-- Output 7, the second hop's sums, after point `n`. -/
def outs0_7 (c : Dev nD) : ℕ → Vec F S1024x128 .f32 :=
  trail (fun n d => sum0' (grid0.coords (pt0 n)) (iblk0 V c 2 (pt0 n)) (iblk0 V c 3 (pt0 n)) (accs0 V c n) d) (constant S1024x128 .f32 0x00000000#32)

/-- Output 8, the second hop's counts, after point `n`. -/
def outs0_8 (c : Dev nD) : ℕ → Vec F S1024x128 .f32 :=
  trail (fun n d => cnt0' (grid0.coords (pt0 n)) (iblk0 V c 2 (pt0 n)) (accs0 V c n) d) (constant S1024x128 .f32 0x00000000#32)

/-- The region's invariant: before point 0 the class's; after point `n` the accumulator at its contents, every other
    scoped buffer at anything. -/
def inv0 (c : Dev nD) : (n : ℕ) → n ≤ cfg0.N → sProp 𝕄
  | 0, _ => Pipeline.ΦA spec0 c
  | n + 1, _ => iprop(iprop(owns (c : Thread nD τ) scM0 fullShare (accs0 V c n) ∗ Pipeline.scopedRestBut spec0 c [cc0_scratch0]) ∗ (∃ r, prngReg c r))

/-- What is kept between points, after the first. -/
theorem inv0_pos (c : Dev nD) (n : ℕ) (h : n ≤ cfg0.N) (hz : n ≠ 0) :
    inv0 V c n h = iprop(iprop(owns (c : Thread nD τ) scM0 fullShare (accs0 V c (n - 1)) ∗ Pipeline.scopedRestBut spec0 c [cc0_scratch0]) ∗ (∃ r, prngReg c r)) := by
  cases n with
  | zero => exact absurd rfl hz
  | succ n => rfl

/-- The region's proof data: its arrays as found; after point `t` each input's buffer at its block, each output's at the
    contents above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outs0_4 V c t
    | ⟨5, _⟩ => outs0_5 V c t.val
    | ⟨6, _⟩ => outs0_6 V c t.val
    | ⟨7, _⟩ => outs0_7 V c t.val
    | ⟨8, _⟩ => outs0_8 V c t.val
  Φ t := inv0 V c t.val (Nat.le_of_lt_succ t.isLt)
  q w := Pipeline.shareOf spec0 w
  owed _ := 0

/-- The proof data's arrays are the contents at entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outs0_4 V c t := by dsimp only [dat0]
theorem after0_5 (c : Dev nD) (t : Fin cfg0.N) : (dat0 V c).after 5 t = outs0_5 V c t.val := by dsimp only [dat0]
theorem after0_6 (c : Dev nD) (t : Fin cfg0.N) : (dat0 V c).after 6 t = outs0_6 V c t.val := by dsimp only [dat0]
theorem after0_7 (c : Dev nD) (t : Fin cfg0.N) : (dat0 V c).after 7 t = outs0_7 V c t.val := by dsimp only [dat0]
theorem after0_8 (c : Dev nD) (t : Fin cfg0.N) : (dat0 V c).after 8 t = outs0_8 V c t.val := by dsimp only [dat0]

/-- An input buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What is kept before a point. -/
theorem inv0_castSucc (c : Dev nD) (t : Fin cfg0.N) :
    (dat0 V c).Φ t.castSucc = inv0 V c t.val (Nat.le_of_lt t.isLt) := by
  dsimp only [dat0]; exact Pipeline.Dat.Φ_castSucc (inv0 V c) t

/-- Before any point the accumulator holds something from which the body makes the point's contents. -/
theorem inv0_open (c : Dev nD) (t : Fin cfg0.N) :
    (dat0 V c).Φ t.castSucc ⊢ (iprop(∃ a, ⌜acc0 (grid0.coords t) (iblk0 V c 0 t) (iblk0 V c 1 t) a = accs0 V c t.val⌝
      ∗ iprop(owns (c : Thread nD τ) scM0 fullShare a ∗ Pipeline.scopedRestBut spec0 c [cc0_scratch0]) ∗ (∃ r, prngReg c r)) : sProp 𝕄) := by
  rw [inv0_castSucc V c t]
  by_cases hz : t.val = 0
  · have e : inv0 V c t.val (Nat.le_of_lt t.isLt) = Pipeline.ΦA spec0 c := by
      have : ∀ (n : ℕ) (h : n ≤ cfg0.N), n = 0 → inv0 V c n h = Pipeline.ΦA spec0 c := fun n h e => by subst e; rfl
      exact this _ _ hz
    rw [e, inv0_eq]
    iintro ⟨⟨⟨%a, HS⟩, HR⟩, Hg⟩
    iexists a
    isplitr
    · ipureintro
      have hr : resets0 (grid0.coords t) := (resets0_iff t).2 (by omega)
      obtain ⟨b, hb⟩ := trail_eq_step (fun n a => acc0 (grid0.coords (pt0 n)) (iblk0 V c 0 (pt0 n)) (iblk0 V c 1 (pt0 n)) a) k0_pay1 t.val
      unfold accs0; rw [hb]; (try dsimp only); rw [pt0_val]
      exact acc0_reset _ hr _ _ _ _
    isplitl [HS HR]
    · isplitl [HS]; · iexact HS
      iexact HR
    iexact Hg
  · rw [inv0_pos V c _ _ hz]
    iintro ⟨⟨HS, HR⟩, Hg⟩
    iexists _
    isplitr
    · ipureintro
      exact (by unfold accs0; rw [trail_pos _ _ _ hz]; (try dsimp only); rw [pt0_val] : accs0 V c t.val = acc0 (grid0.coords t) (iblk0 V c 0 t) (iblk0 V c 1 t) (accs0 V c (t.val - 1))).symm
    isplitl [HS HR]
    · isplitl [HS]; · iexact HS
      iexact HR
    iexact Hg

/-! ## When the outputs' buffers hold something the body stored -/

/-- Output 4 is left alone except at the last contraction step. -/
theorem idle0_4 (t : Fin cfg0.N) : cfg0.idle 4 (grid0.coords t) = !decide (t.val % 5 = 4) := by
  have e : cfg0.idle 4 (grid0.coords t) = !(k0_cond4 (grid0.coords t) == 1#1) := rfl
  rw [e]
  by_cases h : t.val % 5 = 4
  · rw [(last0_iff t).2 h, decide_eq_true h]; rfl
  · rw [decide_eq_false h, beq_eq_false_iff_ne.2 fun h' => h ((last0_iff t).1 h')]

/-- Output 5 is left alone except at the last contraction step. -/
theorem idle0_5 (t : Fin cfg0.N) : cfg0.idle 5 (grid0.coords t) = !decide (t.val % 5 = 4) := by
  have e : cfg0.idle 5 (grid0.coords t) = (!(k0_cond4 (grid0.coords t) == 1#1 && k0_cond5 (grid0.coords t) == 1#1) && !(k0_cond4 (grid0.coords t) == 1#1 && k0_cond6 (grid0.coords t) == 1#1)) := rfl
  rw [e]
  by_cases h : t.val % 5 = 4
  · rw [(last0_iff t).2 h, decide_eq_true h]
    by_cases h' : t.val / 5 % 5 = 0
    · rw [(left0_iff t).2 h']; rfl
    · rw [(right0_iff t).2 (by omega), beq_eq_false_iff_ne.2 fun h'' => h' ((left0_iff t).1 h'')]; rfl
  · rw [decide_eq_false h, beq_eq_false_iff_ne.2 fun h' => h ((last0_iff t).1 h')]; rfl

/-- Output 6 is left alone except at the last contraction step. -/
theorem idle0_6 (t : Fin cfg0.N) : cfg0.idle 6 (grid0.coords t) = !decide (t.val % 5 = 4) := by
  have e : cfg0.idle 6 (grid0.coords t) = (!(k0_cond4 (grid0.coords t) == 1#1 && k0_cond5 (grid0.coords t) == 1#1) && !(k0_cond4 (grid0.coords t) == 1#1 && k0_cond6 (grid0.coords t) == 1#1)) := rfl
  rw [e]
  by_cases h : t.val % 5 = 4
  · rw [(last0_iff t).2 h, decide_eq_true h]
    by_cases h' : t.val / 5 % 5 = 0
    · rw [(left0_iff t).2 h']; rfl
    · rw [(right0_iff t).2 (by omega), beq_eq_false_iff_ne.2 fun h'' => h' ((left0_iff t).1 h'')]; rfl
  · rw [decide_eq_false h, beq_eq_false_iff_ne.2 fun h' => h ((last0_iff t).1 h')]; rfl

/-- Output 7 is left alone except at the last contraction step. -/
theorem idle0_7 (t : Fin cfg0.N) : cfg0.idle 7 (grid0.coords t) = !decide (t.val % 5 = 4) := by
  have e : cfg0.idle 7 (grid0.coords t) = (!(k0_cond4 (grid0.coords t) == 1#1 && k0_cond5 (grid0.coords t) == 1#1) && !(k0_cond4 (grid0.coords t) == 1#1 && k0_cond6 (grid0.coords t) == 1#1)) := rfl
  rw [e]
  by_cases h : t.val % 5 = 4
  · rw [(last0_iff t).2 h, decide_eq_true h]
    by_cases h' : t.val / 5 % 5 = 0
    · rw [(left0_iff t).2 h']; rfl
    · rw [(right0_iff t).2 (by omega), beq_eq_false_iff_ne.2 fun h'' => h' ((left0_iff t).1 h'')]; rfl
  · rw [decide_eq_false h, beq_eq_false_iff_ne.2 fun h' => h ((last0_iff t).1 h')]; rfl

/-- Output 8 is left alone except at the last contraction step. -/
theorem idle0_8 (t : Fin cfg0.N) : cfg0.idle 8 (grid0.coords t) = !decide (t.val % 5 = 4) := by
  have e : cfg0.idle 8 (grid0.coords t) = (!(k0_cond4 (grid0.coords t) == 1#1 && k0_cond5 (grid0.coords t) == 1#1) && !(k0_cond4 (grid0.coords t) == 1#1 && k0_cond6 (grid0.coords t) == 1#1)) := rfl
  rw [e]
  by_cases h : t.val % 5 = 4
  · rw [(last0_iff t).2 h, decide_eq_true h]
    by_cases h' : t.val / 5 % 5 = 0
    · rw [(left0_iff t).2 h']; rfl
    · rw [(right0_iff t).2 (by omega), beq_eq_false_iff_ne.2 fun h'' => h' ((left0_iff t).1 h'')]; rfl
  · rw [decide_eq_false h, beq_eq_false_iff_ne.2 fun h' => h ((last0_iff t).1 h')]; rfl

/-- Output 5's buffer holds nothing of the row block's until its first column block is finished. -/
theorem fresh0_5 (t : Fin cfg0.N) : cfg0.fresh 5 t.val = decide (t.val % 25 ≤ 4) := by
  refine cfg0.fresh_tab 5 (fun n => decide (n % 25 ≤ 4)) rfl (fun t => ?_) t.val (Nat.le_of_lt t.isLt)
  have ef : (cfg0.win 5).flush t = decide (t.val % 25 = 24) := by
    by_cases h : t.val % 25 = 24
    · rw [(flush0_5 t).2 h, decide_eq_true h]
    · rw [decide_eq_false h]; exact Bool.eq_false_iff.2 fun h' => h ((flush0_5 t).1 h')
  rw [ef, show cfg0.idle 5 (cfg0.grid.coords t) = !decide (t.val % 5 = 4) from idle0_5 t]
  rw [Bool.eq_iff_iff]
  simp only [decide_eq_true_eq, Bool.or_eq_true, Bool.and_eq_true, Bool.not_eq_true', decide_eq_false_iff_not]
  omega

/-- What the body finds in output 5's buffer. -/
theorem before0_5 (c : Dev nD) (t : Fin cfg0.N) (d) :
    (dat0 V c).before 5 t d = if t.val % 25 ≤ 4 then d else outs0_5 V c (t.val - 1) := by
  rw [(dat0 V c).before_out_traj 5 rfl (fun _ _ => rfl) (fun t hz hi _ => ?_) t.val t rfl d, fresh0_5, after0_5]
  · by_cases h : t.val % 25 ≤ 4
    · rw [if_pos h, if_pos (decide_eq_true h)]
    · rw [if_neg h, if_neg (by rw [decide_eq_false h]; exact Bool.false_ne_true)]
  · rw [after0_5, after0_5]
    have hi' : ¬t.val % 5 = 4 := by
      have e := idle0_5 t
      rw [show cfg0.idle 5 (grid0.coords t) = true from hi] at e
      intro h; rw [decide_eq_true h] at e; exact absurd e (by decide)
    show outs0_5 V c t.val = outs0_5 V c (t.val - 1)
    unfold outs0_5; rw [trail_pos _ _ _ hz]; (try dsimp only); rw [pt0_val]
    unfold sum0; rw [if_neg fun h => hi' ((last0_iff t).1 h)]

/-- What the body leaves there at the last contraction step. -/
theorem made0_5 (c : Dev nD) (t : Fin cfg0.N) (h : t.val % 5 = 4) (d) :
    sum0 (grid0.coords t) (iblk0 V c 2 t) (iblk0 V c 3 t) ((dat0 V c).before 5 t d) = outs0_5 V c t.val := by
  rw [before0_5]
  by_cases h' : t.val % 25 ≤ 4
  · obtain ⟨b, hb⟩ := trail_eq_step (fun n d => sum0 (grid0.coords (pt0 n)) (iblk0 V c 2 (pt0 n)) (iblk0 V c 3 (pt0 n)) d) (constant S1024x128 .f32 0x00000000#32) t.val
    unfold outs0_5; rw [hb]; (try dsimp only); rw [pt0_val]
    have hq : k0_cond4 (grid0.coords t) = 1#1 := (last0_iff t).2 h
    have hl : k0_cond5 (grid0.coords t) = 1#1 := (left0_iff t).2 (by omega)
    unfold sum0; rw [if_pos hq, if_pos hq, if_pos hl, if_pos hl]
  · rw [if_neg h']
    conv_rhs => unfold outs0_5; rw [trail_pos _ _ _ (by omega)]
    (try dsimp only); rw [pt0_val]; try rfl

/-- Elsewhere the body leaves it as it found it. -/
theorem kept0_5 (c : Dev nD) (t : Fin cfg0.N) (h : ¬t.val % 5 = 4) (d) :
    sum0 (grid0.coords t) (iblk0 V c 2 t) (iblk0 V c 3 t) d = d := by
  unfold sum0; exact if_neg fun h' => h ((last0_iff t).1 h')

/-- Output 6's buffer holds nothing of the row block's until its first column block is finished. -/
theorem fresh0_6 (t : Fin cfg0.N) : cfg0.fresh 6 t.val = decide (t.val % 25 ≤ 4) := by
  refine cfg0.fresh_tab 6 (fun n => decide (n % 25 ≤ 4)) rfl (fun t => ?_) t.val (Nat.le_of_lt t.isLt)
  have ef : (cfg0.win 6).flush t = decide (t.val % 25 = 24) := by
    by_cases h : t.val % 25 = 24
    · rw [(flush0_6 t).2 h, decide_eq_true h]
    · rw [decide_eq_false h]; exact Bool.eq_false_iff.2 fun h' => h ((flush0_6 t).1 h')
  rw [ef, show cfg0.idle 6 (cfg0.grid.coords t) = !decide (t.val % 5 = 4) from idle0_6 t]
  rw [Bool.eq_iff_iff]
  simp only [decide_eq_true_eq, Bool.or_eq_true, Bool.and_eq_true, Bool.not_eq_true', decide_eq_false_iff_not]
  omega

/-- What the body finds in output 6's buffer. -/
theorem before0_6 (c : Dev nD) (t : Fin cfg0.N) (d) :
    (dat0 V c).before 6 t d = if t.val % 25 ≤ 4 then d else outs0_6 V c (t.val - 1) := by
  rw [(dat0 V c).before_out_traj 6 rfl (fun _ _ => rfl) (fun t hz hi _ => ?_) t.val t rfl d, fresh0_6, after0_6]
  · by_cases h : t.val % 25 ≤ 4
    · rw [if_pos h, if_pos (decide_eq_true h)]
    · rw [if_neg h, if_neg (by rw [decide_eq_false h]; exact Bool.false_ne_true)]
  · rw [after0_6, after0_6]
    have hi' : ¬t.val % 5 = 4 := by
      have e := idle0_6 t
      rw [show cfg0.idle 6 (grid0.coords t) = true from hi] at e
      intro h; rw [decide_eq_true h] at e; exact absurd e (by decide)
    show outs0_6 V c t.val = outs0_6 V c (t.val - 1)
    unfold outs0_6; rw [trail_pos _ _ _ hz]; (try dsimp only); rw [pt0_val]
    unfold cnt0; rw [if_neg fun h => hi' ((last0_iff t).1 h)]

/-- What the body leaves there at the last contraction step. -/
theorem made0_6 (c : Dev nD) (t : Fin cfg0.N) (h : t.val % 5 = 4) (d) :
    cnt0 (grid0.coords t) (iblk0 V c 2 t) ((dat0 V c).before 6 t d) = outs0_6 V c t.val := by
  rw [before0_6]
  by_cases h' : t.val % 25 ≤ 4
  · obtain ⟨b, hb⟩ := trail_eq_step (fun n d => cnt0 (grid0.coords (pt0 n)) (iblk0 V c 2 (pt0 n)) d) (constant S1024x128 .f32 0x00000000#32) t.val
    unfold outs0_6; rw [hb]; (try dsimp only); rw [pt0_val]
    have hq : k0_cond4 (grid0.coords t) = 1#1 := (last0_iff t).2 h
    have hl : k0_cond5 (grid0.coords t) = 1#1 := (left0_iff t).2 (by omega)
    unfold cnt0; rw [if_pos hq, if_pos hq, if_pos hl, if_pos hl]
  · rw [if_neg h']
    conv_rhs => unfold outs0_6; rw [trail_pos _ _ _ (by omega)]
    (try dsimp only); rw [pt0_val]; try rfl

/-- Elsewhere the body leaves it as it found it. -/
theorem kept0_6 (c : Dev nD) (t : Fin cfg0.N) (h : ¬t.val % 5 = 4) (d) :
    cnt0 (grid0.coords t) (iblk0 V c 2 t) d = d := by
  unfold cnt0; exact if_neg fun h' => h ((last0_iff t).1 h')

/-- Output 7's buffer holds nothing of the row block's until its first column block is finished. -/
theorem fresh0_7 (t : Fin cfg0.N) : cfg0.fresh 7 t.val = decide (t.val % 25 ≤ 4) := by
  refine cfg0.fresh_tab 7 (fun n => decide (n % 25 ≤ 4)) rfl (fun t => ?_) t.val (Nat.le_of_lt t.isLt)
  have ef : (cfg0.win 7).flush t = decide (t.val % 25 = 24) := by
    by_cases h : t.val % 25 = 24
    · rw [(flush0_7 t).2 h, decide_eq_true h]
    · rw [decide_eq_false h]; exact Bool.eq_false_iff.2 fun h' => h ((flush0_7 t).1 h')
  rw [ef, show cfg0.idle 7 (cfg0.grid.coords t) = !decide (t.val % 5 = 4) from idle0_7 t]
  rw [Bool.eq_iff_iff]
  simp only [decide_eq_true_eq, Bool.or_eq_true, Bool.and_eq_true, Bool.not_eq_true', decide_eq_false_iff_not]
  omega

/-- What the body finds in output 7's buffer. -/
theorem before0_7 (c : Dev nD) (t : Fin cfg0.N) (d) :
    (dat0 V c).before 7 t d = if t.val % 25 ≤ 4 then d else outs0_7 V c (t.val - 1) := by
  rw [(dat0 V c).before_out_traj 7 rfl (fun _ _ => rfl) (fun t hz hi _ => ?_) t.val t rfl d, fresh0_7, after0_7]
  · by_cases h : t.val % 25 ≤ 4
    · rw [if_pos h, if_pos (decide_eq_true h)]
    · rw [if_neg h, if_neg (by rw [decide_eq_false h]; exact Bool.false_ne_true)]
  · rw [after0_7, after0_7]
    have hi' : ¬t.val % 5 = 4 := by
      have e := idle0_7 t
      rw [show cfg0.idle 7 (grid0.coords t) = true from hi] at e
      intro h; rw [decide_eq_true h] at e; exact absurd e (by decide)
    show outs0_7 V c t.val = outs0_7 V c (t.val - 1)
    unfold outs0_7; rw [trail_pos _ _ _ hz]; (try dsimp only); rw [pt0_val]
    unfold sum0'; rw [if_neg fun h => hi' ((last0_iff t).1 h)]

/-- What the body leaves there at the last contraction step. -/
theorem made0_7 (c : Dev nD) (t : Fin cfg0.N) (h : t.val % 5 = 4) (d) :
    sum0' (grid0.coords t) (iblk0 V c 2 t) (iblk0 V c 3 t) (accs0 V c t.val) ((dat0 V c).before 7 t d) = outs0_7 V c t.val := by
  rw [before0_7]
  by_cases h' : t.val % 25 ≤ 4
  · obtain ⟨b, hb⟩ := trail_eq_step (fun n d => sum0' (grid0.coords (pt0 n)) (iblk0 V c 2 (pt0 n)) (iblk0 V c 3 (pt0 n)) (accs0 V c n) d) (constant S1024x128 .f32 0x00000000#32) t.val
    unfold outs0_7; rw [hb]; (try dsimp only); rw [pt0_val]
    have hq : k0_cond4 (grid0.coords t) = 1#1 := (last0_iff t).2 h
    have hl : k0_cond5 (grid0.coords t) = 1#1 := (left0_iff t).2 (by omega)
    unfold sum0'; rw [if_pos hq, if_pos hq, if_pos hl, if_pos hl]
  · rw [if_neg h']
    conv_rhs => unfold outs0_7; rw [trail_pos _ _ _ (by omega)]
    (try dsimp only); rw [pt0_val]; try rfl

/-- Elsewhere the body leaves it as it found it. -/
theorem kept0_7 (c : Dev nD) (t : Fin cfg0.N) (h : ¬t.val % 5 = 4) (d) :
    sum0' (grid0.coords t) (iblk0 V c 2 t) (iblk0 V c 3 t) (accs0 V c t.val) d = d := by
  unfold sum0'; exact if_neg fun h' => h ((last0_iff t).1 h')

/-- Output 8's buffer holds nothing of the row block's until its first column block is finished. -/
theorem fresh0_8 (t : Fin cfg0.N) : cfg0.fresh 8 t.val = decide (t.val % 25 ≤ 4) := by
  refine cfg0.fresh_tab 8 (fun n => decide (n % 25 ≤ 4)) rfl (fun t => ?_) t.val (Nat.le_of_lt t.isLt)
  have ef : (cfg0.win 8).flush t = decide (t.val % 25 = 24) := by
    by_cases h : t.val % 25 = 24
    · rw [(flush0_8 t).2 h, decide_eq_true h]
    · rw [decide_eq_false h]; exact Bool.eq_false_iff.2 fun h' => h ((flush0_8 t).1 h')
  rw [ef, show cfg0.idle 8 (cfg0.grid.coords t) = !decide (t.val % 5 = 4) from idle0_8 t]
  rw [Bool.eq_iff_iff]
  simp only [decide_eq_true_eq, Bool.or_eq_true, Bool.and_eq_true, Bool.not_eq_true', decide_eq_false_iff_not]
  omega

/-- What the body finds in output 8's buffer. -/
theorem before0_8 (c : Dev nD) (t : Fin cfg0.N) (d) :
    (dat0 V c).before 8 t d = if t.val % 25 ≤ 4 then d else outs0_8 V c (t.val - 1) := by
  rw [(dat0 V c).before_out_traj 8 rfl (fun _ _ => rfl) (fun t hz hi _ => ?_) t.val t rfl d, fresh0_8, after0_8]
  · by_cases h : t.val % 25 ≤ 4
    · rw [if_pos h, if_pos (decide_eq_true h)]
    · rw [if_neg h, if_neg (by rw [decide_eq_false h]; exact Bool.false_ne_true)]
  · rw [after0_8, after0_8]
    have hi' : ¬t.val % 5 = 4 := by
      have e := idle0_8 t
      rw [show cfg0.idle 8 (grid0.coords t) = true from hi] at e
      intro h; rw [decide_eq_true h] at e; exact absurd e (by decide)
    show outs0_8 V c t.val = outs0_8 V c (t.val - 1)
    unfold outs0_8; rw [trail_pos _ _ _ hz]; (try dsimp only); rw [pt0_val]
    unfold cnt0'; rw [if_neg fun h => hi' ((last0_iff t).1 h)]

/-- What the body leaves there at the last contraction step. -/
theorem made0_8 (c : Dev nD) (t : Fin cfg0.N) (h : t.val % 5 = 4) (d) :
    cnt0' (grid0.coords t) (iblk0 V c 2 t) (accs0 V c t.val) ((dat0 V c).before 8 t d) = outs0_8 V c t.val := by
  rw [before0_8]
  by_cases h' : t.val % 25 ≤ 4
  · obtain ⟨b, hb⟩ := trail_eq_step (fun n d => cnt0' (grid0.coords (pt0 n)) (iblk0 V c 2 (pt0 n)) (accs0 V c n) d) (constant S1024x128 .f32 0x00000000#32) t.val
    unfold outs0_8; rw [hb]; (try dsimp only); rw [pt0_val]
    have hq : k0_cond4 (grid0.coords t) = 1#1 := (last0_iff t).2 h
    have hl : k0_cond5 (grid0.coords t) = 1#1 := (left0_iff t).2 (by omega)
    unfold cnt0'; rw [if_pos hq, if_pos hq, if_pos hl, if_pos hl]
  · rw [if_neg h']
    conv_rhs => unfold outs0_8; rw [trail_pos _ _ _ (by omega)]
    (try dsimp only); rw [pt0_val]; try rfl

/-- Elsewhere the body leaves it as it found it. -/
theorem kept0_8 (c : Dev nD) (t : Fin cfg0.N) (h : ¬t.val % 5 = 4) (d) :
    cnt0' (grid0.coords t) (iblk0 V c 2 t) (accs0 V c t.val) d = d := by
  unfold cnt0'; exact if_neg fun h' => h ((last0_iff t).1 h')

/-! ## The body's obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

/-- What each window's buffer is left as: its contents, or at a point that does not write it, as it was. -/
theorem leaves0_0 (c : Dev nD) (t : Fin cfg0.N) : (dat0 V c).leavesExact 0 t = owns (c : Thread nD τ) (ms0_0 t) fullShare (iblk0 V c 0 t) := by
  unfold Dat.leavesExact; rw [show cfg0.idle 0 (cfg0.grid.coords t) = false from rfl, after0_0]
theorem leaves0_1 (c : Dev nD) (t : Fin cfg0.N) : (dat0 V c).leavesExact 1 t = owns (c : Thread nD τ) (ms0_1 t) fullShare (iblk0 V c 1 t) := by
  unfold Dat.leavesExact; rw [show cfg0.idle 1 (cfg0.grid.coords t) = false from rfl, after0_1]
theorem leaves0_2 (c : Dev nD) (t : Fin cfg0.N) : (dat0 V c).leavesExact 2 t = owns (c : Thread nD τ) (ms0_2 t) fullShare (iblk0 V c 2 t) := by
  unfold Dat.leavesExact; rw [show cfg0.idle 2 (cfg0.grid.coords t) = false from rfl, after0_2]
theorem leaves0_3 (c : Dev nD) (t : Fin cfg0.N) : (dat0 V c).leavesExact 3 t = owns (c : Thread nD τ) (ms0_3 t) fullShare (iblk0 V c 3 t) := by
  unfold Dat.leavesExact; rw [show cfg0.idle 3 (cfg0.grid.coords t) = false from rfl, after0_3]
theorem leaves0_4_last (c : Dev nD) (t : Fin cfg0.N) (h : t.val % 5 = 4) : (dat0 V c).leavesExact 4 t = owns (c : Thread nD τ) (ms0_4 t) fullShare (outs0_4 V c t) := by
  unfold Dat.leavesExact
  rw [show cfg0.idle 4 (cfg0.grid.coords t) = false from (idle0_4 t).trans (by rw [decide_eq_true h]; rfl), after0_4]
theorem leaves0_4_idle (c : Dev nD) (t : Fin cfg0.N) (h : ¬t.val % 5 = 4) :
    (dat0 V c).leavesExact 4 t = iprop(∃ d, owns (c : Thread nD τ) (ms0_4 t) fullShare ((dat0 V c).before 4 t d)) :=
  (dat0 V c).leavesExact_idle 4 t ((idle0_4 t).trans (by rw [decide_eq_false h]; rfl))
    (Bool.eq_false_iff.2 fun h' => h (by have := (flush0_4 t).1 h'; omega))
theorem leaves0_5_last (c : Dev nD) (t : Fin cfg0.N) (h : t.val % 5 = 4) : (dat0 V c).leavesExact 5 t = owns (c : Thread nD τ) (ms0_5 t) fullShare (outs0_5 V c t.val) := by
  unfold Dat.leavesExact
  rw [show cfg0.idle 5 (cfg0.grid.coords t) = false from (idle0_5 t).trans (by rw [decide_eq_true h]; rfl), after0_5]
theorem leaves0_5_idle (c : Dev nD) (t : Fin cfg0.N) (h : ¬t.val % 5 = 4) :
    (dat0 V c).leavesExact 5 t = iprop(∃ d, owns (c : Thread nD τ) (ms0_5 t) fullShare ((dat0 V c).before 5 t d)) :=
  (dat0 V c).leavesExact_idle 5 t ((idle0_5 t).trans (by rw [decide_eq_false h]; rfl))
    (Bool.eq_false_iff.2 fun h' => h (by have := (flush0_5 t).1 h'; omega))
theorem leaves0_6_last (c : Dev nD) (t : Fin cfg0.N) (h : t.val % 5 = 4) : (dat0 V c).leavesExact 6 t = owns (c : Thread nD τ) (ms0_6 t) fullShare (outs0_6 V c t.val) := by
  unfold Dat.leavesExact
  rw [show cfg0.idle 6 (cfg0.grid.coords t) = false from (idle0_6 t).trans (by rw [decide_eq_true h]; rfl), after0_6]
theorem leaves0_6_idle (c : Dev nD) (t : Fin cfg0.N) (h : ¬t.val % 5 = 4) :
    (dat0 V c).leavesExact 6 t = iprop(∃ d, owns (c : Thread nD τ) (ms0_6 t) fullShare ((dat0 V c).before 6 t d)) :=
  (dat0 V c).leavesExact_idle 6 t ((idle0_6 t).trans (by rw [decide_eq_false h]; rfl))
    (Bool.eq_false_iff.2 fun h' => h (by have := (flush0_6 t).1 h'; omega))
theorem leaves0_7_last (c : Dev nD) (t : Fin cfg0.N) (h : t.val % 5 = 4) : (dat0 V c).leavesExact 7 t = owns (c : Thread nD τ) (ms0_7 t) fullShare (outs0_7 V c t.val) := by
  unfold Dat.leavesExact
  rw [show cfg0.idle 7 (cfg0.grid.coords t) = false from (idle0_7 t).trans (by rw [decide_eq_true h]; rfl), after0_7]
theorem leaves0_7_idle (c : Dev nD) (t : Fin cfg0.N) (h : ¬t.val % 5 = 4) :
    (dat0 V c).leavesExact 7 t = iprop(∃ d, owns (c : Thread nD τ) (ms0_7 t) fullShare ((dat0 V c).before 7 t d)) :=
  (dat0 V c).leavesExact_idle 7 t ((idle0_7 t).trans (by rw [decide_eq_false h]; rfl))
    (Bool.eq_false_iff.2 fun h' => h (by have := (flush0_7 t).1 h'; omega))
theorem leaves0_8_last (c : Dev nD) (t : Fin cfg0.N) (h : t.val % 5 = 4) : (dat0 V c).leavesExact 8 t = owns (c : Thread nD τ) (ms0_8 t) fullShare (outs0_8 V c t.val) := by
  unfold Dat.leavesExact
  rw [show cfg0.idle 8 (cfg0.grid.coords t) = false from (idle0_8 t).trans (by rw [decide_eq_true h]; rfl), after0_8]
theorem leaves0_8_idle (c : Dev nD) (t : Fin cfg0.N) (h : ¬t.val % 5 = 4) :
    (dat0 V c).leavesExact 8 t = iprop(∃ d, owns (c : Thread nD τ) (ms0_8 t) fullShare ((dat0 V c).before 8 t d)) :=
  (dat0 V c).leavesExact_idle 8 t ((idle0_8 t).trans (by rw [decide_eq_false h]; rfl))
    (Bool.eq_false_iff.2 fun h' => h (by have := (flush0_8 t).1 h'; omega))

set_option maxHeartbeats 4000000 in
/-- The body at any point takes the one to the other. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, leaves0_0, leaves0_1, leaves0_2, leaves0_3]
  rw [show (dat0 V c).owesAt () t.succ = (dat0 V c).owesAt () t.castSucc from rfl]
  rw [show (dat0 V c).Φ t.succ = inv0 V c (t.val + 1) t.isLt from rfl,
    show inv0 V c (t.val + 1) t.isLt = iprop(iprop(owns (c : Thread nD τ) scM0 fullShare (accs0 V c t.val) ∗ Pipeline.scopedRestBut spec0 c [cc0_scratch0]) ∗ (∃ r, prngReg c r)) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HJ := (inv0_open V c t) $$ HI
  icases HJ with ⟨%a, %ha, ⟨HS, HR⟩, Hg⟩
  iapply (body0 c (grid0.coords t) (by rw [off0_iff, diag0_iff]) (right0_iff_not t) _ _ _ _ _ _ _ _ _ _ _ _ _ _ _ _ _ _ _ _ (iblk0 V c 0 t) (iblk0 V c 1 t) (iblk0 V c 2 t) (iblk0 V c 3 t) ((dat0 V c).before 4 t d4) ((dat0 V c).before 5 t d5) ((dat0 V c).before 6 t d6) ((dat0 V c).before 7 t d7) ((dat0 V c).before 8 t d8) a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [ha]
  iintro ⟨H0, H1, H2, H3, H4, H5, H6, H7, H8, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  by_cases h : t.val % 5 = 4
  · rw [leaves0_4_last V c t h, leaves0_5_last V c t h, leaves0_6_last V c t h, leaves0_7_last V c t h, leaves0_8_last V c t h]
    rw [made0_5 V c t h, made0_6 V c t h, made0_7 V c t h, made0_8 V c t h]
    rw [show front0 (grid0.coords t) (iblk0 V c 2 t) (accs0 V c t.val) ((dat0 V c).before 4 t d4) = outs0_4 V c t from if_pos ((last0_iff t).2 h)]
    isplitl [H4]; · iexact H4
    isplitl [H5]; · iexact H5
    isplitl [H6]; · iexact H6
    isplitl [H7]; · iexact H7
    iexact H8
  · rw [leaves0_4_idle V c t h, leaves0_5_idle V c t h, leaves0_6_idle V c t h, leaves0_7_idle V c t h, leaves0_8_idle V c t h]
    rw [kept0_5 V c t h, kept0_6 V c t h, kept0_7 V c t h, kept0_8 V c t h]
    rw [show front0 (grid0.coords t) (iblk0 V c 2 t) (accs0 V c t.val) ((dat0 V c).before 4 t d4) = (dat0 V c).before 4 t d4 from if_neg fun h' => h ((last0_iff t).1 h')]
    isplitl [H4]; · iexists _; iexact H4
    isplitl [H5]; · iexists _; iexact H5
    isplitl [H6]; · iexists _; iexact H6
    isplitl [H7]; · iexists _; iexact H7
    iexists _; iexact H8

/-- What the region calls at a point is the body at the point's arguments. -/
theorem row0 (t : Fin cfg0.N) :
    defs₀ (F := F) .tc cfg0.body (cfg0.bodyArgs t (cfg0.slots t)) = bodyAt0 t := by
  unfold defs₀; rw [Defs.onTc_tc]

/-- The body's obligation, at every point. -/
theorem body_obligation0 (c : Dev nD) : BodyObligation (dat0 (F := F) V c) (defs₀ (F := F)) Variants.none () Set.univ := fun t => by
  rw [bigSep_W0, bigSep_W0, row0]
  exact triple_restated (sound0 V c t) rfl .rfl fun _ => .rfl

/-- What the launch hands the region is the invariant before the first point; -/
theorem enter0 (c : Dev nD) : Pipeline.ΦA spec0 c ⊢ (dat0 V c).Φ 0 := by
  rw [show (dat0 V c).Φ 0 = Pipeline.ΦA spec0 c from rfl]
  try exact Idealize.SL.BI.Entails.refl _

/-- after the last point the accumulator's contents are forgotten. -/
theorem leave0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 250 := N_0; omega), inv0_eq]
  iintro ⟨⟨HS, HR⟩, Hg⟩
  isplitl [HS HR]
  · isplitl [HS]; · iexists _; iexact HS
    iexact HR
  iexact Hg

end Cert.KernelIdeal.Hop

end
-- ==== Proof.Second.Body.lean ====
/- The third hop's kernel body, run once on any staging buffers: what it leaves in the accumulator and in the two
   output blocks, as functions of the input blocks, the accumulator and the output blocks it found. -/
module

public import proofs.«01_k».proof.Proof.First.Body
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word deciding whether the accumulator is reset: the contraction index is zero. -/
abbrev resets1 (i : grid1.Coords) : Prop :=
  (Scalar.cmpi .ne (Scalar.extui (Scalar.cmpi .eq (BitVec.ofNat 32 (i 2).val) 0#32)) 0#32) = 1#1

/-- The accumulator after the body: reset at the first contraction step, then the product of the two blocks added. -/
def acc1 (i : grid1.Coords) (x0 : Vec F S1024x2048 .i8) (x1 : Vec F S2048x2048 .i8) (a : Vec F S1024x2048 .i32) :
    Vec F S1024x2048 .i32 :=
  k1_pay2 (if resets1 i then k1_pay1 else a) x0 x1

/-- The third hop's sums after the body. -/
def sum1 (i : grid1.Coords) (x2 x3 : Vec F S1024x2048 .i8) (x4 : Vec F S2048x128 .f32) (a : Vec F S1024x2048 .i32)
    (d : Vec F S1024x128 .f32) : Vec F S1024x128 .f32 :=
  if k1_cond2 i = 1#1 then
    if k1_cond3 i = 1#1 then k1_pay4 i a x2 x3 x4 else k1_pay7 i a x2 x3 x4 d
  else d

/-- The third hop's counts after the body. -/
def cnt1 (i : grid1.Coords) (x2 x3 : Vec F S1024x2048 .i8) (a : Vec F S1024x2048 .i32) (d : Vec F S1024x128 .f32) :
    Vec F S1024x128 .f32 :=
  if k1_cond2 i = 1#1 then
    if k1_cond3 i = 1#1 then k1_pay6 i a x2 x3 else k1_pay8 i a x2 x3 d
  else d

set_option maxHeartbeats 8000000 in
/-- The body run on whole buffers: the inputs are left as they were, the accumulator and the outputs as the functions
    above say. -/
theorem body1 (c : Dev nD) (i : grid1.Coords) (h6 : k1_cond4 i = 1#1 ↔ ¬k1_cond3 i = 1#1)
    (arg3 : Memref sig .tc .vmem S1024x2048 .i8) (harg3 : arg3.IsWhole) (arg4 : Memref sig .tc .vmem S2048x2048 .i8) (harg4 : arg4.IsWhole) (arg5 : Memref sig .tc .vmem S1024x2048 .i8) (harg5 : arg5.IsWhole) (arg6 : Memref sig .tc .vmem S1024x2048 .i8) (harg6 : arg6.IsWhole) (arg7 : Memref sig .tc .vmem S2048x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x2048 .i32) (harg10 : arg10.IsWhole)
    (x0 : Vec F S1024x2048 .i8) (x1 : Vec F S2048x2048 .i8) (x2 x3 : Vec F S1024x2048 .i8) (x4 : Vec F S2048x128 .f32)
    (d5 d6 : Vec F S1024x128 .f32) (a : Vec F S1024x2048 .i32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare d5 ∗ owns (c : Thread nD τ) arg9 fullShare d6 ∗ owns (c : Thread nD τ) arg10 fullShare a
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (sum1 i x2 x3 x4 (acc1 i x0 x1 a) d5) ∗ owns (c : Thread nD τ) arg9 fullShare (cnt1 i x2 x3 (acc1 i x0 x1 a) d6) ∗ owns (c : Thread nD τ) arg10 fullShare (acc1 i x0 x1 a)) -∗ K ⟨⟩))
      ⊢ wp frame (wpE (defs₀ (F := F)) Variants.none c none) E (cc1__hop_pass_kernel i arg3 harg3 arg4 harg4 arg5 harg5 arg6 harg6 arg7 harg7 arg8 harg8 arg9 harg9 arg10 harg10) K := by
  simp only [cc1__hop_pass_kernel_eq_skeleton]; unfold cc1__hop_pass_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
  by_cases hc0 : resets1 i <;> by_cases hc3 : k1_cond2 i = 1#1 <;> by_cases hc4 : k1_cond3 i = 1#1
  all_goals
    have hc5 : if k1_cond3 i = 1#1 then ¬k1_cond4 i = 1#1 else k1_cond4 i = 1#1 := by
      first | rw [if_pos hc4]; exact fun h => h6.1 h hc4 | rw [if_neg hc4]; exact h6.2 hc4
    first | rw [if_pos hc4] at hc5 | rw [if_neg hc4] at hc5
    sl_exec (disch := first | sl_exact hc0 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      sl_unfold_run_names
      first | rw [read_stored _ _ zeros2] | rw [harg8.read_unread]
      simp (disch := decide) only [sum1, cnt1, acc1, hc0, hc3, hc4, eq_self, if_true, if_false, View.readAt_eq_ld, Memref.IsWhole.read_unread, View.ld_unit_lit', View.readCov_unit_lit', View.readCov_cons_unit_lit'] <;>
        repeat first | rw [if_pos hc0] | rw [if_neg hc0]
    isplitl [H6]
    · iexists _; isplitr
      swap; · iexact H6
      ipureintro
      sl_unfold_run_names
      first | rw [read_stored _ _ zeros2] | rw [harg9.read_unread]
      simp (disch := decide) only [sum1, cnt1, acc1, hc0, hc3, hc4, eq_self, if_true, if_false, View.readAt_eq_ld, Memref.IsWhole.read_unread, View.ld_unit_lit', View.readCov_unit_lit', View.readCov_cons_unit_lit'] <;>
        repeat first | rw [if_pos hc0] | rw [if_neg hc0]
    iexists _; isplitr
    swap; · iexact HS0
    ipureintro
    sl_unfold_run_names
    first | rw [read_stored _ _ zeros2] | rw [harg10.read_unread]
    simp (disch := decide) only [sum1, cnt1, acc1, hc0, hc3, hc4, eq_self, if_true, if_false, View.readAt_eq_ld, Memref.IsWhole.read_unread, View.ld_unit_lit', View.readCov_unit_lit', View.readCov_cons_unit_lit'] <;>
        repeat first | rw [if_pos hc0] | rw [if_neg hc0]

end Cert.KernelIdeal.Hop

end
-- ==== Proof.Second.Region.lean ====
/- The third hop's region: at the contents its arrays have when it is entered, what every staging buffer holds after
   every grid point, and the body's obligation at every point. -/
module

public import proofs.«01_k».proof.Proof.Second.Body
public import proofs.«01_k».proof.Proof.First.Region
public import Idealize.ShloMosaic.Lib.Pipeline.RegionsLoop
public import Idealize.ShloMosaic.Lib.Pipeline.FrameSuffix
public import Idealize.ShloMosaic.Lib.Pipeline.TableIdle

@[expose] public section

set_option maxRecDepth 16384

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Point number `n` of the grid. -/
def pt1 (n : ℕ) : Fin cfg1.N := ⟨n % 250, Nat.lt_of_lt_of_eq (Nat.mod_lt _ (by decide)) (N_1).symm⟩

/-- A point's number names the point. -/
theorem pt1_val (t : Fin cfg1.N) : pt1 t.val = t :=
  Fin.ext (Nat.mod_eq_of_lt (Nat.lt_of_lt_of_eq t.isLt N_1))

/-! ## The body's conditions at a point -/

/-- The grid's coordinates at a point: row block, column block, contraction step. -/
theorem coords1 (t : Fin cfg1.N) : (grid1.coords t 0).val = t.val / 25 % 10 ∧ (grid1.coords t 1).val = t.val / 5 % 5
    ∧ (grid1.coords t 2).val = t.val / 1 % 5 :=
  ⟨Pipeline.Grid.coords_val t 0 (by decide) rfl, Pipeline.Grid.coords_val t 1 (by decide) rfl,
    Pipeline.Grid.coords_val t 2 (by decide) rfl⟩

/-- The accumulator is reset at the first contraction step. -/
theorem resets1_iff (t : Fin cfg1.N) : resets1 (grid1.coords t) ↔ t.val % 5 = 0 := by
  have ht : t.val < 250 := Nat.lt_of_lt_of_eq t.isLt N_1
  obtain ⟨e0, e1, e2⟩ := coords1 t
  simp only [resets1, e0, e1, e2]
  word_cmp

/-- The outputs are written at the last contraction step. -/
theorem last1_iff (t : Fin cfg1.N) : k1_cond2 (grid1.coords t) = 1#1 ↔ t.val % 5 = 4 := by
  have ht : t.val < 250 := Nat.lt_of_lt_of_eq t.isLt N_1
  obtain ⟨e0, e1, e2⟩ := coords1 t
  simp only [k1_cond2, e0, e1, e2]
  word_cmp

/-- The outputs are reset in the first column block, -/
theorem left1_iff (t : Fin cfg1.N) : k1_cond3 (grid1.coords t) = 1#1 ↔ t.val / 5 % 5 = 0 := by
  have ht : t.val < 250 := Nat.lt_of_lt_of_eq t.isLt N_1
  obtain ⟨e0, e1, e2⟩ := coords1 t
  simp only [k1_cond3, e0, e1, e2]
  word_cmp

/-- and added into in the others. -/
theorem right1_iff (t : Fin cfg1.N) : k1_cond4 (grid1.coords t) = 1#1 ↔ 1 ≤ t.val / 5 % 5 := by
  have ht : t.val < 250 := Nat.lt_of_lt_of_eq t.isLt N_1
  obtain ⟨e0, e1, e2⟩ := coords1 t
  simp only [k1_cond4, e0, e1, e2]
  word_cmp

/-- The three conditions on the column block and the contraction step, together. -/
theorem right1_iff_not (t : Fin cfg1.N) : k1_cond4 (grid1.coords t) = 1#1 ↔ ¬k1_cond3 (grid1.coords t) = 1#1 := by
  rw [right1_iff, left1_iff]; omega

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, if the body leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, if the body leaves it there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, if the body leaves it there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, if the body leaves it there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, if the body leaves it there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers and the accumulator -/

/-- The staging buffers at a point, each the whole of its buffer. -/
abbrev ms1_0 (t : Fin cfg1.N) : Memref sig .tc .vmem S1024x2048 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x2048 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator's buffer. -/
abbrev scM1 : Memref sig .tc .vmem S1024x2048 .i32 := Memref.whole cc1_scratch0

/-- The class's invariant with the accumulator's buffer taken out. -/
theorem inv1_eq (c : Dev nD) :
    (Pipeline.ΦA spec1 c : sProp 𝕄)
      = iprop(iprop((∃ d, owns (c : Thread nD τ) scM1 fullShare d) ∗ Pipeline.scopedRestBut spec1 c [cc1_scratch0]) ∗ (∃ r, prngReg c r)) := by
  unfold Pipeline.ΦA; rw [scopedRest1_split]; simp only [scM1, owns_whole]; try rfl

/-! ## What the buffers hold after each point -/

/-- The accumulator after point `n`. -/
def accs1 (c : Dev nD) : ℕ → Vec F S1024x2048 .i32 :=
  trail (fun n a => acc1 (grid1.coords (pt1 n)) (iblk1 V c 0 (pt1 n)) (iblk1 V c 1 (pt1 n)) a) k1_pay1

/-- A reset accumulator does not remember. -/
theorem acc1_reset (i : grid1.Coords) (h : resets1 i) (x0 : Vec F S1024x2048 .i8) (x1 : Vec F S2048x2048 .i8)
    (a b : Vec F S1024x2048 .i32) : acc1 i x0 x1 a = acc1 i x0 x1 b := by
  unfold acc1; rw [if_pos h, if_pos h]

/-- Output 5, the third hop's sums, after point `n`. -/
def outs1_5 (c : Dev nD) : ℕ → Vec F S1024x128 .f32 :=
  trail (fun n d => sum1 (grid1.coords (pt1 n)) (iblk1 V c 2 (pt1 n)) (iblk1 V c 3 (pt1 n)) (iblk1 V c 4 (pt1 n)) (accs1 V c n) d) (constant S1024x128 .f32 0x00000000#32)

/-- Output 6, the third hop's counts, after point `n`. -/
def outs1_6 (c : Dev nD) : ℕ → Vec F S1024x128 .f32 :=
  trail (fun n d => cnt1 (grid1.coords (pt1 n)) (iblk1 V c 2 (pt1 n)) (iblk1 V c 3 (pt1 n)) (accs1 V c n) d) (constant S1024x128 .f32 0x00000000#32)

/-- The region's invariant: before point 0 the class's; after point `n` the accumulator at its contents, every other
    scoped buffer at anything. -/
def inv1 (c : Dev nD) : (n : ℕ) → n ≤ cfg1.N → sProp 𝕄
  | 0, _ => Pipeline.ΦA spec1 c
  | n + 1, _ => iprop(iprop(owns (c : Thread nD τ) scM1 fullShare (accs1 V c n) ∗ Pipeline.scopedRestBut spec1 c [cc1_scratch0]) ∗ (∃ r, prngReg c r))

/-- What is kept between points, after the first. -/
theorem inv1_pos (c : Dev nD) (n : ℕ) (h : n ≤ cfg1.N) (hz : n ≠ 0) :
    inv1 V c n h = iprop(iprop(owns (c : Thread nD τ) scM1 fullShare (accs1 V c (n - 1)) ∗ Pipeline.scopedRestBut spec1 c [cc1_scratch0]) ∗ (∃ r, prngReg c r)) := by
  cases n with
  | zero => exact absurd rfl hz
  | succ n => rfl

/-- The region's proof data: its arrays as found; after point `t` each input's buffer at its block, each output's at the
    contents above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outs1_5 V c t.val
    | ⟨6, _⟩ => outs1_6 V c t.val
  Φ t := inv1 V c t.val (Nat.le_of_lt_succ t.isLt)
  q w := Pipeline.shareOf spec1 w
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outs1_5 V c t.val := by dsimp only [dat1]
theorem after1_6 (c : Dev nD) (t : Fin cfg1.N) : (dat1 V c).after 6 t = outs1_6 V c t.val := by dsimp only [dat1]

/-- An input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What is kept before a point. -/
theorem inv1_castSucc (c : Dev nD) (t : Fin cfg1.N) :
    (dat1 V c).Φ t.castSucc = inv1 V c t.val (Nat.le_of_lt t.isLt) := by
  dsimp only [dat1]; exact Pipeline.Dat.Φ_castSucc (inv1 V c) t

/-- Before any point the accumulator holds something from which the body makes the point's contents. -/
theorem inv1_open (c : Dev nD) (t : Fin cfg1.N) :
    (dat1 V c).Φ t.castSucc ⊢ (iprop(∃ a, ⌜acc1 (grid1.coords t) (iblk1 V c 0 t) (iblk1 V c 1 t) a = accs1 V c t.val⌝
      ∗ iprop(owns (c : Thread nD τ) scM1 fullShare a ∗ Pipeline.scopedRestBut spec1 c [cc1_scratch0]) ∗ (∃ r, prngReg c r)) : sProp 𝕄) := by
  rw [inv1_castSucc V c t]
  by_cases hz : t.val = 0
  · have e : inv1 V c t.val (Nat.le_of_lt t.isLt) = Pipeline.ΦA spec1 c := by
      have : ∀ (n : ℕ) (h : n ≤ cfg1.N), n = 0 → inv1 V c n h = Pipeline.ΦA spec1 c := fun n h e => by subst e; rfl
      exact this _ _ hz
    rw [e, inv1_eq]
    iintro ⟨⟨⟨%a, HS⟩, HR⟩, Hg⟩
    iexists a
    isplitr
    · ipureintro
      have hr : resets1 (grid1.coords t) := (resets1_iff t).2 (by omega)
      obtain ⟨b, hb⟩ := trail_eq_step (fun n a => acc1 (grid1.coords (pt1 n)) (iblk1 V c 0 (pt1 n)) (iblk1 V c 1 (pt1 n)) a) k1_pay1 t.val
      unfold accs1; rw [hb]; (try dsimp only); rw [pt1_val]
      exact acc1_reset _ hr _ _ _ _
    isplitl [HS HR]
    · isplitl [HS]; · iexact HS
      iexact HR
    iexact Hg
  · rw [inv1_pos V c _ _ hz]
    iintro ⟨⟨HS, HR⟩, Hg⟩
    iexists _
    isplitr
    · ipureintro
      exact (by unfold accs1; rw [trail_pos _ _ _ hz]; (try dsimp only); rw [pt1_val] : accs1 V c t.val = acc1 (grid1.coords t) (iblk1 V c 0 t) (iblk1 V c 1 t) (accs1 V c (t.val - 1))).symm
    isplitl [HS HR]
    · isplitl [HS]; · iexact HS
      iexact HR
    iexact Hg

/-! ## When the outputs' buffers hold something the body stored -/

/-- Output 5 is left alone except at the last contraction step. -/
theorem idle1_5 (t : Fin cfg1.N) : cfg1.idle 5 (grid1.coords t) = !decide (t.val % 5 = 4) := by
  have e : cfg1.idle 5 (grid1.coords t) = (!(k1_cond2 (grid1.coords t) == 1#1 && k1_cond3 (grid1.coords t) == 1#1) && !(k1_cond2 (grid1.coords t) == 1#1 && k1_cond4 (grid1.coords t) == 1#1)) := rfl
  rw [e]
  by_cases h : t.val % 5 = 4
  · rw [(last1_iff t).2 h, decide_eq_true h]
    by_cases h' : t.val / 5 % 5 = 0
    · rw [(left1_iff t).2 h']; rfl
    · rw [(right1_iff t).2 (by omega), beq_eq_false_iff_ne.2 fun h'' => h' ((left1_iff t).1 h'')]; rfl
  · rw [decide_eq_false h, beq_eq_false_iff_ne.2 fun h' => h ((last1_iff t).1 h')]; rfl

/-- Output 6 is left alone except at the last contraction step. -/
theorem idle1_6 (t : Fin cfg1.N) : cfg1.idle 6 (grid1.coords t) = !decide (t.val % 5 = 4) := by
  have e : cfg1.idle 6 (grid1.coords t) = (!(k1_cond2 (grid1.coords t) == 1#1 && k1_cond3 (grid1.coords t) == 1#1) && !(k1_cond2 (grid1.coords t) == 1#1 && k1_cond4 (grid1.coords t) == 1#1)) := rfl
  rw [e]
  by_cases h : t.val % 5 = 4
  · rw [(last1_iff t).2 h, decide_eq_true h]
    by_cases h' : t.val / 5 % 5 = 0
    · rw [(left1_iff t).2 h']; rfl
    · rw [(right1_iff t).2 (by omega), beq_eq_false_iff_ne.2 fun h'' => h' ((left1_iff t).1 h'')]; rfl
  · rw [decide_eq_false h, beq_eq_false_iff_ne.2 fun h' => h ((last1_iff t).1 h')]; rfl

/-- Output 5's buffer holds nothing of the row block's until its first column block is finished. -/
theorem fresh1_5 (t : Fin cfg1.N) : cfg1.fresh 5 t.val = decide (t.val % 25 ≤ 4) := by
  refine cfg1.fresh_tab 5 (fun n => decide (n % 25 ≤ 4)) rfl (fun t => ?_) t.val (Nat.le_of_lt t.isLt)
  have ef : (cfg1.win 5).flush t = decide (t.val % 25 = 24) := by
    by_cases h : t.val % 25 = 24
    · rw [(flush1_5 t).2 h, decide_eq_true h]
    · rw [decide_eq_false h]; exact Bool.eq_false_iff.2 fun h' => h ((flush1_5 t).1 h')
  rw [ef, show cfg1.idle 5 (cfg1.grid.coords t) = !decide (t.val % 5 = 4) from idle1_5 t]
  rw [Bool.eq_iff_iff]
  simp only [decide_eq_true_eq, Bool.or_eq_true, Bool.and_eq_true, Bool.not_eq_true', decide_eq_false_iff_not]
  omega

/-- What the body finds in output 5's buffer. -/
theorem before1_5 (c : Dev nD) (t : Fin cfg1.N) (d) :
    (dat1 V c).before 5 t d = if t.val % 25 ≤ 4 then d else outs1_5 V c (t.val - 1) := by
  rw [(dat1 V c).before_out_traj 5 rfl (fun _ _ => rfl) (fun t hz hi _ => ?_) t.val t rfl d, fresh1_5, after1_5]
  · by_cases h : t.val % 25 ≤ 4
    · rw [if_pos h, if_pos (decide_eq_true h)]
    · rw [if_neg h, if_neg (by rw [decide_eq_false h]; exact Bool.false_ne_true)]
  · rw [after1_5, after1_5]
    have hi' : ¬t.val % 5 = 4 := by
      have e := idle1_5 t
      rw [show cfg1.idle 5 (grid1.coords t) = true from hi] at e
      intro h; rw [decide_eq_true h] at e; exact absurd e (by decide)
    show outs1_5 V c t.val = outs1_5 V c (t.val - 1)
    unfold outs1_5; rw [trail_pos _ _ _ hz]; (try dsimp only); rw [pt1_val]
    unfold sum1; rw [if_neg fun h => hi' ((last1_iff t).1 h)]

/-- What the body leaves there at the last contraction step. -/
theorem made1_5 (c : Dev nD) (t : Fin cfg1.N) (h : t.val % 5 = 4) (d) :
    sum1 (grid1.coords t) (iblk1 V c 2 t) (iblk1 V c 3 t) (iblk1 V c 4 t) (accs1 V c t.val) ((dat1 V c).before 5 t d) = outs1_5 V c t.val := by
  rw [before1_5]
  by_cases h' : t.val % 25 ≤ 4
  · obtain ⟨b, hb⟩ := trail_eq_step (fun n d => sum1 (grid1.coords (pt1 n)) (iblk1 V c 2 (pt1 n)) (iblk1 V c 3 (pt1 n)) (iblk1 V c 4 (pt1 n)) (accs1 V c n) d) (constant S1024x128 .f32 0x00000000#32) t.val
    unfold outs1_5; rw [hb]; (try dsimp only); rw [pt1_val]
    have hq : k1_cond2 (grid1.coords t) = 1#1 := (last1_iff t).2 h
    have hl : k1_cond3 (grid1.coords t) = 1#1 := (left1_iff t).2 (by omega)
    unfold sum1; rw [if_pos hq, if_pos hq, if_pos hl, if_pos hl]
  · rw [if_neg h']
    conv_rhs => unfold outs1_5; rw [trail_pos _ _ _ (by omega)]
    (try dsimp only); rw [pt1_val]; try rfl

/-- Elsewhere the body leaves it as it found it. -/
theorem kept1_5 (c : Dev nD) (t : Fin cfg1.N) (h : ¬t.val % 5 = 4) (d) :
    sum1 (grid1.coords t) (iblk1 V c 2 t) (iblk1 V c 3 t) (iblk1 V c 4 t) (accs1 V c t.val) d = d := by
  unfold sum1; exact if_neg fun h' => h ((last1_iff t).1 h')

/-- Output 6's buffer holds nothing of the row block's until its first column block is finished. -/
theorem fresh1_6 (t : Fin cfg1.N) : cfg1.fresh 6 t.val = decide (t.val % 25 ≤ 4) := by
  refine cfg1.fresh_tab 6 (fun n => decide (n % 25 ≤ 4)) rfl (fun t => ?_) t.val (Nat.le_of_lt t.isLt)
  have ef : (cfg1.win 6).flush t = decide (t.val % 25 = 24) := by
    by_cases h : t.val % 25 = 24
    · rw [(flush1_6 t).2 h, decide_eq_true h]
    · rw [decide_eq_false h]; exact Bool.eq_false_iff.2 fun h' => h ((flush1_6 t).1 h')
  rw [ef, show cfg1.idle 6 (cfg1.grid.coords t) = !decide (t.val % 5 = 4) from idle1_6 t]
  rw [Bool.eq_iff_iff]
  simp only [decide_eq_true_eq, Bool.or_eq_true, Bool.and_eq_true, Bool.not_eq_true', decide_eq_false_iff_not]
  omega

/-- What the body finds in output 6's buffer. -/
theorem before1_6 (c : Dev nD) (t : Fin cfg1.N) (d) :
    (dat1 V c).before 6 t d = if t.val % 25 ≤ 4 then d else outs1_6 V c (t.val - 1) := by
  rw [(dat1 V c).before_out_traj 6 rfl (fun _ _ => rfl) (fun t hz hi _ => ?_) t.val t rfl d, fresh1_6, after1_6]
  · by_cases h : t.val % 25 ≤ 4
    · rw [if_pos h, if_pos (decide_eq_true h)]
    · rw [if_neg h, if_neg (by rw [decide_eq_false h]; exact Bool.false_ne_true)]
  · rw [after1_6, after1_6]
    have hi' : ¬t.val % 5 = 4 := by
      have e := idle1_6 t
      rw [show cfg1.idle 6 (grid1.coords t) = true from hi] at e
      intro h; rw [decide_eq_true h] at e; exact absurd e (by decide)
    show outs1_6 V c t.val = outs1_6 V c (t.val - 1)
    unfold outs1_6; rw [trail_pos _ _ _ hz]; (try dsimp only); rw [pt1_val]
    unfold cnt1; rw [if_neg fun h => hi' ((last1_iff t).1 h)]

/-- What the body leaves there at the last contraction step. -/
theorem made1_6 (c : Dev nD) (t : Fin cfg1.N) (h : t.val % 5 = 4) (d) :
    cnt1 (grid1.coords t) (iblk1 V c 2 t) (iblk1 V c 3 t) (accs1 V c t.val) ((dat1 V c).before 6 t d) = outs1_6 V c t.val := by
  rw [before1_6]
  by_cases h' : t.val % 25 ≤ 4
  · obtain ⟨b, hb⟩ := trail_eq_step (fun n d => cnt1 (grid1.coords (pt1 n)) (iblk1 V c 2 (pt1 n)) (iblk1 V c 3 (pt1 n)) (accs1 V c n) d) (constant S1024x128 .f32 0x00000000#32) t.val
    unfold outs1_6; rw [hb]; (try dsimp only); rw [pt1_val]
    have hq : k1_cond2 (grid1.coords t) = 1#1 := (last1_iff t).2 h
    have hl : k1_cond3 (grid1.coords t) = 1#1 := (left1_iff t).2 (by omega)
    unfold cnt1; rw [if_pos hq, if_pos hq, if_pos hl, if_pos hl]
  · rw [if_neg h']
    conv_rhs => unfold outs1_6; rw [trail_pos _ _ _ (by omega)]
    (try dsimp only); rw [pt1_val]; try rfl

/-- Elsewhere the body leaves it as it found it. -/
theorem kept1_6 (c : Dev nD) (t : Fin cfg1.N) (h : ¬t.val % 5 = 4) (d) :
    cnt1 (grid1.coords t) (iblk1 V c 2 t) (iblk1 V c 3 t) (accs1 V c t.val) d = d := by
  unfold cnt1; exact if_neg fun h' => h ((last1_iff t).1 h')

/-! ## The body's obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- What each window's buffer is left as: its contents, or at a point that does not write it, as it was. -/
theorem leaves1_0 (c : Dev nD) (t : Fin cfg1.N) : (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (ms1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (ms1_4 t) fullShare (iblk1 V c 4 t) := by
  unfold Dat.leavesExact; rw [show cfg1.idle 4 (cfg1.grid.coords t) = false from rfl, after1_4]
theorem leaves1_5_last (c : Dev nD) (t : Fin cfg1.N) (h : t.val % 5 = 4) : (dat1 V c).leavesExact 5 t = owns (c : Thread nD τ) (ms1_5 t) fullShare (outs1_5 V c t.val) := by
  unfold Dat.leavesExact
  rw [show cfg1.idle 5 (cfg1.grid.coords t) = false from (idle1_5 t).trans (by rw [decide_eq_true h]; rfl), after1_5]
theorem leaves1_5_idle (c : Dev nD) (t : Fin cfg1.N) (h : ¬t.val % 5 = 4) :
    (dat1 V c).leavesExact 5 t = iprop(∃ d, owns (c : Thread nD τ) (ms1_5 t) fullShare ((dat1 V c).before 5 t d)) :=
  (dat1 V c).leavesExact_idle 5 t ((idle1_5 t).trans (by rw [decide_eq_false h]; rfl))
    (Bool.eq_false_iff.2 fun h' => h (by have := (flush1_5 t).1 h'; omega))
theorem leaves1_6_last (c : Dev nD) (t : Fin cfg1.N) (h : t.val % 5 = 4) : (dat1 V c).leavesExact 6 t = owns (c : Thread nD τ) (ms1_6 t) fullShare (outs1_6 V c t.val) := by
  unfold Dat.leavesExact
  rw [show cfg1.idle 6 (cfg1.grid.coords t) = false from (idle1_6 t).trans (by rw [decide_eq_true h]; rfl), after1_6]
theorem leaves1_6_idle (c : Dev nD) (t : Fin cfg1.N) (h : ¬t.val % 5 = 4) :
    (dat1 V c).leavesExact 6 t = iprop(∃ d, owns (c : Thread nD τ) (ms1_6 t) fullShare ((dat1 V c).before 6 t d)) :=
  (dat1 V c).leavesExact_idle 6 t ((idle1_6 t).trans (by rw [decide_eq_false h]; rfl))
    (Bool.eq_false_iff.2 fun h' => h (by have := (flush1_6 t).1 h'; omega))

set_option maxHeartbeats 4000000 in
/-- The body at any point takes the one to the other. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, leaves1_0, leaves1_1, leaves1_2, leaves1_3, leaves1_4]
  rw [show (dat1 V c).owesAt () t.succ = (dat1 V c).owesAt () t.castSucc from rfl]
  rw [show (dat1 V c).Φ t.succ = inv1 V c (t.val + 1) t.isLt from rfl,
    show inv1 V c (t.val + 1) t.isLt = iprop(iprop(owns (c : Thread nD τ) scM1 fullShare (accs1 V c t.val) ∗ Pipeline.scopedRestBut spec1 c [cc1_scratch0]) ∗ (∃ r, prngReg c r)) from rfl]
  iintro ⟨HI, Ho, ⟨%d0, H0⟩, ⟨%d1, H1⟩, ⟨%d2, H2⟩, ⟨%d3, H3⟩, ⟨%d4, H4⟩, ⟨%d5, H5⟩, ⟨%d6, H6⟩⟩
  ihave HJ := (inv1_open V c t) $$ HI
  icases HJ with ⟨%a, %ha, ⟨HS, HR⟩, Hg⟩
  iapply (body1 c (grid1.coords t) (right1_iff_not t) _ _ _ _ _ _ _ _ _ _ _ _ _ _ _ _ (iblk1 V c 0 t) (iblk1 V c 1 t) (iblk1 V c 2 t) (iblk1 V c 3 t) (iblk1 V c 4 t) ((dat1 V c).before 5 t d5) ((dat1 V c).before 6 t d6) a Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  rw [ha]
  iintro ⟨H0, H1, H2, H3, H4, H5, H6, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  by_cases h : t.val % 5 = 4
  · rw [leaves1_5_last V c t h, leaves1_6_last V c t h]
    rw [made1_5 V c t h, made1_6 V c t h]
    isplitl [H5]; · iexact H5
    iexact H6
  · rw [leaves1_5_idle V c t h, leaves1_6_idle V c t h]
    rw [kept1_5 V c t h, kept1_6 V c t h]
    isplitl [H5]; · iexists _; iexact H5
    iexists _; iexact H6

/-- What the region calls at a point is the body at the point's arguments. -/
theorem row1 (t : Fin cfg1.N) :
    defs₀ (F := F) .tc cfg1.body (cfg1.bodyArgs t (cfg1.slots t)) = bodyAt1 t := by
  unfold defs₀; rw [Defs.onTc_tc]

/-- The body's obligation, at every point. -/
theorem body_obligation1 (c : Dev nD) : BodyObligation (dat1 (F := F) V c) (defs₀ (F := F)) Variants.none () Set.univ := fun t => by
  rw [bigSep_W1, bigSep_W1, row1]
  exact triple_restated (sound1 V c t) rfl .rfl fun _ => .rfl

/-- What the launch hands the region is the invariant before the first point; -/
theorem enter1 (c : Dev nD) : Pipeline.ΦA spec1 c ⊢ (dat1 V c).Φ 0 := by
  rw [show (dat1 V c).Φ 0 = Pipeline.ΦA spec1 c from rfl]
  try exact Idealize.SL.BI.Entails.refl _

/-- after the last point the accumulator's contents are forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 250 := N_1; omega), inv1_eq]
  iintro ⟨⟨HS, HR⟩, Hg⟩
  isplitl [HS HR]
  · isplitl [HS]; · iexists _; iexact HS
    iexact HR
  iexact Hg

end Cert.KernelIdeal.Hop

end
-- ==== Proof.Mlp.lean ====
/- The readout region: at the contents its arrays have when it is entered, what the staging buffers hold after every
   grid point, and the body's obligation at every point. -/
module

public import proofs.«01_k».proof.Proof.First.Region
public import Idealize.ShloMosaic.Lib.Pipeline.RegionsLoop
public import Idealize.ShloMosaic.Lib.Pipeline.FrameSuffix
public import Idealize.ShloMosaic.Lib.Pipeline.TableIdle

@[expose] public section

set_option maxRecDepth 16384

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, for any proof data with these arrays whose body leaves it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at every point, for any proof data with these arrays whose body leaves it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's buffer holds its block at every point, for any proof data with these arrays whose body leaves it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's buffer holds its block at every point, for any proof data with these arrays whose body leaves it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's buffer holds its block at every point, for any proof data with these arrays whose body leaves it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's buffer holds its block at every point, for any proof data with these arrays whose body leaves it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's buffer holds its block at every point, for any proof data with these arrays whose body leaves it. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's buffer holds its block at every point, for any proof data with these arrays whose body leaves it. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's buffer holds its block at every point, for any proof data with these arrays whose body leaves it. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's buffer holds its block at every point, for any proof data with these arrays whose body leaves it. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's buffer holds its block at every point, for any proof data with these arrays whose body leaves it. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's buffer holds its block at every point, for any proof data with these arrays whose body leaves it. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's buffer holds its block at every point, for any proof data with these arrays whose body leaves it. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's buffer holds its block at every point, for any proof data with these arrays whose body leaves it. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The values the readout is computed from, before its last normalisation: the scores of the block's rows, from the
    features `x0`, the three neighbourhoods' sums and counts `x1` … `x6`, the four hop matrices, the mixing matrix, its
    offsets and the gates `x13`. -/
def scores2 (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1024x128 .f32) (x7 : Vec F S128x64 .f32) (x8 : Vec F S128x64 .f32) (x9 : Vec F S128x64 .f32) (x10 : Vec F S128x64 .f32) (x11 : Vec F S64x16 .f32) (x12 : Vec F S1x16 .f32) (x13 : Vec F S1x4 .f32) : Vec F S1024x16 .f32 :=
  k2_pay6 (k2_pay2 x0) (k2_pay3 x1 x2) (k2_pay4 x3 x4) (k2_pay5 x5 x6) x13 x7 x8 x9 x10 x11 x12

/-- What the body stores: the scores, each row normalised against its largest score. -/
def out2 (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1024x128 .f32) (x7 : Vec F S128x64 .f32) (x8 : Vec F S128x64 .f32) (x9 : Vec F S128x64 .f32) (x10 : Vec F S128x64 .f32) (x11 : Vec F S64x16 .f32) (x12 : Vec F S1x16 .f32) (x13 : Vec F S1x4 .f32) : Vec F S1024x16 .f32 :=
  k2_pay1 (scores2 x0 x1 x2 x3 x4 x5 x6 x7 x8 x9 x10 x11 x12 x13)
    (k2_pay7 (k2_pay2 x0) (k2_pay3 x1 x2) (k2_pay4 x3 x4) (k2_pay5 x5 x6) x13 x7 x8 x9 x10 x11 x12)

/-! ## The body's triple -/

set_option maxHeartbeats 1000000 in
/-- The body on whole staging buffers: the inputs end as they were and the output holds `out2` of them. -/
theorem sound_kernel2 (c : Dev nD) (E : Set ℕ) (i : grid2.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S64x16 .f32) (harg12 : arg12.IsWhole) (arg13 : Memref sig .tc .vmem S1x16 .f32) (harg13 : arg13.IsWhole) (arg14 : Memref sig .tc .vmem S1x4 .f32) (harg14 : arg14.IsWhole) (arg15 : Memref sig .tc .vmem S1024x16 .f32) (harg15 : arg15.IsWhole)
    (x0 : Vec F S1024x128 .f32) (x1 : Vec F S1024x128 .f32) (x2 : Vec F S1024x128 .f32) (x3 : Vec F S1024x128 .f32) (x4 : Vec F S1024x128 .f32) (x5 : Vec F S1024x128 .f32) (x6 : Vec F S1024x128 .f32) (x7 : Vec F S128x64 .f32) (x8 : Vec F S128x64 .f32) (x9 : Vec F S128x64 .f32) (x10 : Vec F S128x64 .f32) (x11 : Vec F S64x16 .f32) (x12 : Vec F S1x16 .f32) (x13 : Vec F S1x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out2 x0 x1 x2 x3 x4 x5 x6 x7 x8 x9 x10 x11 x12 x13)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__mlp_kernel_eq_skeleton]; unfold cc2__mlp_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  sl_unfold_run_names
  rw [read_stored _ _ zeros2]
  simp (disch := decide) only [out2, scores2, View.readAt_eq_ld, Memref.IsWhole.read_unread, View.ld_unit_lit', View.readCov_unit_lit', View.readCov_cons_unit_lit']

/-! ## The pipeline's proof data -/

/-- The readout's proof data: the arrays as entered; after every point each input's buffer at its block and the
    output's at `out2` of the blocks; nothing else changes. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
  Φ _ := Pipeline.ΦA spec2 c
  q _ := fullShare
  owed _ := 0

/-- The proof data's arrays are the contents at entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by dsimp only [dat2]

/-- An input buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t))

/-- The body at any point of the grid. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ (grid2.coords t) _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hop

end
-- ==== Proof.Run.lean ====
/- The whole run: what every buffer holds between the launch, the three regions and the return. -/
module

public import proofs.«01_k».proof.Proof.First.Region
public import proofs.«01_k».proof.Proof.Second.Region
public import proofs.«01_k».proof.Proof.Mlp
public import proofs.«01_k».proof.Proof.Gen.KernelIdeal.Regions
public import Idealize.ShloMosaic.Lib.Pipeline.RegionsLoop
public import Idealize.ShloMosaic.Lib.Pipeline.FrameSuffix
public import Idealize.ShloMosaic.Lib.Pipeline.TableIdle

@[expose] public section

set_option maxRecDepth 16384

noncomputable section

namespace Cert.KernelIdeal.Hop

open Cert.KernelIdeal.Gen hiding V0 V1 V2 V3 V4 V5 V6 V7 V1_of V2_of V3_of V4_of V5_of V6_of V7_of adm segs seg0 seg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- `hostOps0` writes none of the argument arrays (checked: each argument against each reference it writes). -/
theorem hostOps0_args : ∀ a ∈ argRefs, a ∉ hostOps0_W := ListAll.forall_mem_of_all_decide (by decide +kernel)

/-- `hostOps0_1` writes none of the argument arrays (checked: each argument against each reference it writes). -/
theorem hostOps0_1_args : ∀ a ∈ argRefs, a ∉ hostOps0_1_W := ListAll.forall_mem_of_all_decide (by decide +kernel)

/-- `hostOps2` writes none of the argument arrays (checked: each argument against each reference it writes). -/
theorem hostOps2_args : ∀ a ∈ argRefs, a ∉ hostOps2_W := ListAll.forall_mem_of_all_decide (by decide +kernel)

/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1` (region 0's entry). -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, each output's write-backs
    folded: `Dat.arrAt … N`), every other buffer as entered (Lib/Pipeline/FrameSuffix.lean `withArrays`) (region 1's entry). -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact (dat0 (V2 m ρ) c).withArrays_arrAt launch₀0.sharedIn _ (A_eq0 (V2 m ρ) c) w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- A reference that is none of region 0's OUTPUT arrays keeps its entry contents across it: an input window's
    array is never written back (`Dat.arrAt_in`, `A_eq0`); any other buffer is left as is. -/
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn0 a ha)).trans (W2_args m ρ c a ha)
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

/-! ### The arguments end as launched: no host stretch writes one and no region may change one (a region reads it
    through an input window or bypasses it) -/

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 (custom_call 0) over the thread state: entered from every unscoped buffer at `W2`, left at `W3`
    (what the next segment is entered from). -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (V2 m ρ) c)
    unfold Pipeline.ΦA
    iintro ⟨Hp, -, Hr⟩
    isplitl [Hr]; · iexact Hr
    iexact Hp
  hout c := by
    rw [Pipeline.ownSems0_none]
    refine BIBase.Entails.trans (leave0 (V2 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter1 (V3 m ρ) c)
    unfold Pipeline.ΦA
    iintro ⟨Hp, -, Hr⟩
    isplitl [Hr]; · iexact Hr
    iexact Hp
  hout c := by
    rw [Pipeline.ownSems0_none]
    refine BIBase.Entails.trans (leave1 (V3 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W5`, left at `W6`
    (what the next segment is entered from). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every weakly fair execution of the whole program terminates without a
    fault, and every buffer that outlives the regions ends at `W7`, every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The argument arrays end as launched, whatever the scalars are, and the result is what the last boundary holds. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.mem ((c.tc : Thread nD τ).loc main_v39) = W7 m ρ c (Proc.devRef .tc main_v39))
      ∧ r.2.sem = fun _ => 0) :=
  (θ_run defs _ _).mono (fun r h => ⟨fun c => ⟨⟨(h.1 c _ (mem_uc main_arg0 (by decide))).trans (W7_args m ρ c main_arg0 (by decide)),
    (h.1 c _ (mem_uc main_arg1 (by decide))).trans (W7_args m ρ c main_arg1 (by decide)),
    (h.1 c _ (mem_uc main_arg2 (by decide))).trans (W7_args m ρ c main_arg2 (by decide)),
    (h.1 c _ (mem_uc main_arg3 (by decide))).trans (W7_args m ρ c main_arg3 (by decide)),
    (h.1 c _ (mem_uc main_arg4 (by decide))).trans (W7_args m ρ c main_arg4 (by decide)),
    (h.1 c _ (mem_uc main_arg5 (by decide))).trans (W7_args m ρ c main_arg5 (by decide)),
    (h.1 c _ (mem_uc main_arg6 (by decide))).trans (W7_args m ρ c main_arg6 (by decide)),
    (h.1 c _ (mem_uc main_arg7 (by decide))).trans (W7_args m ρ c main_arg7 (by decide)),
    (h.1 c _ (mem_uc main_arg8 (by decide))).trans (W7_args m ρ c main_arg8 (by decide))⟩, h.1 c _ (mem_uc main_v39 (by decide))⟩, h.2⟩) (run m ρ)

end Cert.KernelIdeal.Hop

end
-- ==== Proof.Frames.lean ====
/- The frames: every program ends with its arguments as launched and every semaphore counter at zero. -/
module

public import proofs.«01_k».proof.Defs
public import proofs.«01_k».proof.Proof.Gen.Kernel
public import proofs.«01_k».proof.Proof.Gen.ReferenceIdeal.Run
public import proofs.«01_k».proof.Proof.Run
public import Idealize.ShloMosaic.Adequacy
public import Idealize.ShloMosaic.Init

@[expose] public section

noncomputable section

namespace Cert.Proof

open Idealize.ShloMosaic Idealize.SL.Sem

/-- The kernel's frame claim, written over the idealized kernel's text at the machine's own scalars. -/
def frameAtBits : Prop := open Cert.KernelIdeal in
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

/-- The two texts are one: nothing was rewritten between the kernel and its idealization. -/
theorem frame_same : Cert.quiescent_Kernel (hKernel := Cert.Kernel.Gen.facts) = frameAtBits := by chain_rfl

/-- The kernel as it runs: the run proved of the idealized text over any scalars, at the machine's own. -/
theorem frame_kernel : Cert.quiescent_Kernel (hKernel := Cert.Kernel.Gen.facts) :=
  frame_same.mpr fun m ρ _ =>
    (θ_run Cert.KernelIdeal.defs _ _).mono (fun _ h => ⟨fun c => (h.1 c).1, h.2⟩)
      (Cert.KernelIdeal.Hop.run_main (F := Bits) m ρ)

/-- The idealized kernel. -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩)
    (Cert.KernelIdeal.Hop.run_main (F := Ideal) m ρ)

/-- The reference, which declares no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Value.Graph.lean ====
/- The graph a list of edges describes, its pairs of nodes one, two and three hops apart, and what a program adds up
   over them: natural numbers and sums only, nothing of either program. -/
module

public import Idealize.ShloMosaic.Lib.Pointwise
public import Idealize.ShloMosaic.PureOps

@[expose] public section

noncomputable section

namespace Cert.Hops

open Idealize.ShloMosaic
open Finset (range)

/-- The list of edges has one from node `i` to node `j`. -/
def Edge (e : (⟨2, ![2, 160000]⟩ : Shape).Idx → BitVec 32) (i j : ℕ) : Prop :=
  ∃ k : Fin 160000, (e (ix2 (0 : Fin 2) k)).toNat = i ∧ (e (ix2 (1 : Fin 2) k)).toNat = j

/-- Every entry of the list is a node's number. -/
def InRange (e : (⟨2, ![2, 160000]⟩ : Shape).Idx → BitVec 32) : Prop :=
  ∀ (r : Fin 2) (k : Fin 160000), (e (ix2 r k)).toNat < 10000

/-- Both ends of an edge are nodes. -/
theorem Edge.lt {e : (⟨2, ![2, 160000]⟩ : Shape).Idx → BitVec 32} (h : InRange e) {i j : ℕ} (hE : Edge e i j) :
    i < 10000 ∧ j < 10000 := by
  obtain ⟨k, rfl, rfl⟩ := hE
  exact ⟨h 0 k, h 1 k⟩

variable (E : ℕ → ℕ → Prop)

/-- Node `j` is a neighbour of node `i`, and another node. -/
def Hop1 (i j : ℕ) : Prop := E i j ∧ i ≠ j
/-- Node `j` is two hops from node `i`, and not nearer. -/
def Hop2 (i j : ℕ) : Prop := (∃ k, Hop1 E i k ∧ E k j) ∧ ¬E i j ∧ i ≠ j
/-- Node `j` is three hops from node `i`, and not nearer. -/
def Hop3 (i j : ℕ) : Prop := (∃ k, Hop2 E i k ∧ E k j) ∧ ¬E i j ∧ i ≠ j ∧ ¬Hop2 E i j

/-- The edges join nodes with numbers below 10000. -/
def Small : Prop := ∀ i j, E i j → i < 10000 ∧ j < 10000

variable {E}

/-- Both ends of a first hop are nodes, -/
theorem Hop1.lt (h : Small E) {i j : ℕ} (hf : Hop1 E i j) : i < 10000 ∧ j < 10000 := h _ _ hf.1
/-- of a second, -/
theorem Hop2.lt (h : Small E) {i j : ℕ} (hf : Hop2 E i j) : i < 10000 ∧ j < 10000 := by
  obtain ⟨⟨k, h1, h2⟩, -⟩ := hf
  exact ⟨(h1.lt h).1, (h _ _ h2).2⟩
/-- and of a third. -/
theorem Hop3.lt (h : Small E) {i j : ℕ} (hf : Hop3 E i j) : i < 10000 ∧ j < 10000 := by
  obtain ⟨⟨k, h1, h2⟩, -⟩ := hf
  exact ⟨(h1.lt h).1, (h _ _ h2).2⟩

/-- A place of a matrix is given by its row and its column. -/
theorem exists_ix2 {n m : ℕ} (y : (⟨2, ![n, m]⟩ : Shape).Idx) : ∃ (p : Fin n) (q : Fin m), y = ix2 p q :=
  ⟨y 0, y 1, eq_ix2 y⟩

/-! ## Truth values as numbers and words -/

open Classical in
/-- A truth value as an extended real. -/
def ind (p : Prop) : EReal := if p then 1 else 0
open Classical in
/-- A truth value as a word of one bit, -/
def bit1 (p : Prop) : BitVec 1 := if p then 1#1 else 0#1
open Classical in
/-- and as a word of eight bits. -/
def bit8 (p : Prop) : BitVec 8 := if p then 1#8 else 0#8
open Classical in
/-- A truth value as a natural number. -/
def one (p : Prop) : ℕ := if p then 1 else 0

/-- The indicator of what holds is one, -/
theorem ind_true {p : Prop} (h : p) : ind p = 1 := if_pos h
/-- of what fails is zero, -/
theorem ind_false {p : Prop} (h : ¬p) : ind p = 0 := if_neg h
/-- and it is never negative. -/
theorem ind_nonneg (p : Prop) : 0 ≤ ind p := by unfold ind; split <;> simp

/-! ## Sums over the nodes -/

/-- How many of the first `n` numbers have a property. -/
def tally (P : ℕ → Prop) (n : ℕ) : ℕ := ∑ k ∈ range n, one (P k)

/-- The number is at most one, -/
theorem one_le (p : Prop) : one p ≤ 1 := by unfold one; split <;> simp
/-- and zero exactly where the statement fails. -/
theorem one_eq_zero {p : Prop} : one p = 0 ↔ ¬p := by unfold one; split <;> simp_all

/-- No more numbers are counted than looked at. -/
theorem tally_le (P : ℕ → Prop) (n : ℕ) : tally P n ≤ n := by
  unfold tally
  exact (Finset.sum_le_sum fun k _ => one_le (P k)).trans (by simp)

/-- The tally is positive exactly when one of the numbers has the property. -/
theorem tally_pos {P : ℕ → Prop} {n : ℕ} : 0 < tally P n ↔ ∃ k, k < n ∧ P k := by
  rw [Nat.pos_iff_ne_zero, Ne, tally, Finset.sum_eq_zero_iff]
  simp only [Finset.mem_range, one_eq_zero]
  push Not
  rfl

/-- The sum, over the nodes `j` related to node `i`, of their feature `d`; over 10240 rows, of which the kernel's
    arrays have as many. -/
def hsum (R : ℕ → ℕ → Prop) (X : ℕ → ℕ → EReal) (i d : ℕ) : EReal := ∑ j ∈ range 10240, ind (R i j) * X j d
/-- The number of the nodes `j` related to node `i`. -/
def hcnt (R : ℕ → ℕ → Prop) (i : ℕ) : EReal := ∑ j ∈ range 10240, ind (R i j)

/-- A sum over 10240 rows whose last 240 terms are zero is the sum over the 10000 nodes. -/
theorem sum_nodes (f : ℕ → EReal) (h : ∀ j, 10000 ≤ j → f j = 0) : ∑ j ∈ range 10240, f j = ∑ j : Fin 10000, f j.val := by
  rw [Fin.sum_univ_eq_sum_range f, eq_comm]
  refine Finset.sum_subset (fun x hx => ?_) fun x _ hx => h x ?_
  · rw [Finset.mem_range] at *; omega
  · rw [Finset.mem_range] at hx; omega

/-- A sum over related nodes need only look at the nodes of the graph, -/
theorem hsum_eq {R : ℕ → ℕ → Prop} (hR : ∀ i j, R i j → j < 10000) (X : ℕ → ℕ → EReal) (i d : ℕ) :
    hsum R X i d = ∑ j : Fin 10000, ind (R i j.val) * X j.val d :=
  sum_nodes (fun j => ind (R i j) * X j d) fun j hj => by
    rw [ind_false (fun h => by have := hR i j h; omega), zero_mul]

/-- and so need their count. -/
theorem hcnt_eq {R : ℕ → ℕ → Prop} (hR : ∀ i j, R i j → j < 10000) (i : ℕ) :
    hcnt R i = ∑ j : Fin 10000, ind (R i j.val) :=
  sum_nodes (fun j => ind (R i j)) fun j hj => ind_false (fun h => by have := hR i j h; omega)

/-- A sum of products of truth values is positive exactly when one of the products is one. -/
theorem sum_ind_pos {n : ℕ} (P Q : Fin n → Prop) : 0 < ∑ k : Fin n, ind (P k) * ind (Q k) ↔ ∃ k, P k ∧ Q k := by
  have hn : ∀ k ∈ Finset.univ, 0 ≤ ind (P k) * ind (Q k) := fun k _ => mul_nonneg (ind_nonneg _) (ind_nonneg _)
  constructor
  · intro h
    by_contra hc
    push Not at hc
    refine absurd h (not_lt.2 (le_of_eq (Finset.sum_eq_zero fun k _ => ?_)))
    by_cases hp : P k
    · rw [ind_false (hc k hp), mul_zero]
    · rw [ind_false hp, zero_mul]
  · rintro ⟨k, hp, hq⟩
    have h1 := Finset.single_le_sum hn (Finset.mem_univ k)
    rw [ind_true hp, ind_true hq, one_mul] at h1
    exact lt_of_lt_of_le zero_lt_one h1

end Cert.Hops

end
-- ==== Proof.Value.Tiles.lean ====
/- What the hop kernels' arithmetic reads, element by element: the integer product of two tiles of truth values, the
   frontier masks, and the sums and counts over a tile of columns. -/
module

public import proofs.«01_k».proof.Proof.Value.Graph
public import proofs.«01_k».proof.Proof.Gen.KernelIdeal.Skeleton
public import Idealize.ShloMosaic.Lib.Pointwise
public import Idealize.ShloMosaic.Lib.IntMxu
public import Idealize.ShloMosaic.Lib.WordCmp

@[expose] public section

set_option maxRecDepth 16384

noncomputable section

namespace Cert.KernelIdeal.Hop

open Cert.KernelIdeal.Gen Cert.Hops
open Idealize.ShloMosaic
open Idealize.ShloMosaic.ValueIdx (contrEquiv1)
open Finset (range)

/-- A byte of a statement, read as a number. -/
theorem toInt_bit8 (p : Prop) : (bit8 p).toInt = (one p : ℤ) := by
  unfold bit8 one; split <;> rfl

/-- The product of two such numbers is that of the conjunction. -/
theorem one_mul_one (p q : Prop) : ((one p : ℤ) * (one q : ℤ)) = (one (p ∧ q) : ℤ) := by
  unfold one; by_cases hp : p <;> by_cases hq : q <;> simp [hp, hq]

/-- A tile of truth values by another: at each place the number of the positions at which both hold, as a 32-bit word. -/
theorem product_apply (x : IVec S1024x2048 8) (w : IVec S2048x2048 8) (p : Fin 1024) (q : Fin 2048) (P Q : Fin 2048 → Prop)
    (hx : ∀ k, x (ix2 p k) = bit8 (P k)) (hw : ∀ k, w (ix2 k q) = bit8 (Q k)) :
    matmulI8 IntMxuNumerics.v7x dot_S1024x2048_S2048x2048_S1024x2048_1_0_0_1_n_n x w (constantI S1024x2048 32 0#32) (ix2 p q)
      = BitVec.ofNat 32 (∑ k : Fin 2048, one (P k ∧ Q k)) := by
  have e : ∀ k : Fin 2048,
      (x (dot_S1024x2048_S2048x2048_S1024x2048_1_0_0_1_n_n.lhsIdx (ix2 p q) ((contrEquiv1 dot_S1024x2048_S2048x2048_S1024x2048_1_0_0_1_n_n 2048 rfl rfl).symm k))).toInt
        * (w (dot_S1024x2048_S2048x2048_S1024x2048_1_0_0_1_n_n.rhsIdx (ix2 p q) ((contrEquiv1 dot_S1024x2048_S2048x2048_S1024x2048_1_0_0_1_n_n 2048 rfl rfl).symm k))).toInt
        = (one (P k ∧ Q k) : ℤ) := by
    intro k
    have e1 : dot_S1024x2048_S2048x2048_S1024x2048_1_0_0_1_n_n.lhsIdx (ix2 p q) ((contrEquiv1 dot_S1024x2048_S2048x2048_S1024x2048_1_0_0_1_n_n 2048 rfl rfl).symm k) = ix2 p k := by
      funext a; match a with | ⟨0, _⟩ => rfl | ⟨1, _⟩ => rfl
    have e2 : dot_S1024x2048_S2048x2048_S1024x2048_1_0_0_1_n_n.rhsIdx (ix2 p q) ((contrEquiv1 dot_S1024x2048_S2048x2048_S1024x2048_1_0_0_1_n_n 2048 rfl rfl).symm k) = ix2 k q := by
      funext a; match a with | ⟨0, _⟩ => rfl | ⟨1, _⟩ => rfl
    rw [e1, e2, hx, hw, toInt_bit8, toInt_bit8, one_mul_one]
  have hS : absDotI8 dot_S1024x2048_S2048x2048_S1024x2048_1_0_0_1_n_n x w (ix2 p q) ≤ IntMxuNumerics.v7x.exactUpTo := by
    unfold absDotI8
    rw [← Equiv.sum_comp (contrEquiv1 dot_S1024x2048_S2048x2048_S1024x2048_1_0_0_1_n_n 2048 rfl rfl).symm]
    refine (Finset.sum_le_card_nsmul _ _ 1 fun k _ => ?_).trans (by simp)
    rw [e k, Int.natAbs_natCast]
    exact one_le _
  rw [matmulI8_exact _ _ _ _ _ _ rfl hS]
  unfold dotI8
  rw [← Equiv.sum_comp (contrEquiv1 dot_S1024x2048_S2048x2048_S1024x2048_1_0_0_1_n_n 2048 rfl rfl).symm, Finset.sum_congr rfl fun k _ => e k,
    ← Nat.cast_sum]
  exact BitVec.ofInt_natCast _ _

/-! ## Truth values under the word operations -/

/-- A bit flipped is that of the negation, -/
theorem not_bit1 (p : Prop) : IntOp.xori (bit1 p) 1#1 = bit1 (¬p) := by
  unfold bit1; by_cases h : p <;> simp [h] <;> rfl
/-- two bits' and that of the conjunction, -/
theorem and_bit1 (p q : Prop) : IntOp.andi (bit1 p) (bit1 q) = bit1 (p ∧ q) := by
  unfold bit1; by_cases h : p <;> by_cases h' : q <;> simp [h, h'] <;> rfl
/-- and their or that of the disjunction. -/
theorem or_bit1 (p q : Prop) : IntOp.ori (bit1 p) (bit1 q) = bit1 (p ∨ q) := by
  unfold bit1; by_cases h : p <;> by_cases h' : q <;> simp [h, h'] <;> rfl
/-- A byte is zero where its statement fails. -/
theorem eq_zero_bit8 (p : Prop) : IntOp.cmpi .eq (bit8 p) 0#8 = bit1 (¬p) := by
  unfold bit8 bit1; by_cases h : p <;> simp [h] <;> rfl
/-- Choosing by a bit is choosing by its statement. -/
theorem select_bit1 {α : Type} (p : Prop) (a b : α) : Scalar.select (bit1 p) a b = open Classical in if p then a else b := by
  unfold bit1; by_cases h : p <;> simp [h, Scalar.select]
/-- A bit widened to a byte. -/
theorem setWidth_bit1 (p : Prop) : (bit1 p).setWidth 8 = bit8 p := by
  unfold bit8 bit1; by_cases h : p <;> simp [h]
/-- A tally of at most 10240 is a positive word exactly when it is positive. -/
theorem pos_word {n : ℕ} (h : n ≤ 10240) : IntOp.cmpi .sgt (BitVec.ofNat 32 n) 0#32 = bit1 (0 < n) := by
  rw [show (0#32 : BitVec 32) = BitVec.ofNat 32 0 from rfl, WordCmp.cmpi_sgt_ofNat (by omega) (by decide)]
  unfold bit1; by_cases h : 0 < n <;> simp [h]
/-- Equivalent statements have the same bit. -/
theorem bit1_congr {p q : Prop} (h : p ↔ q) : bit1 p = bit1 q := by rw [propext h]
/-- Two numbers that fit a 32-bit word are equal as words exactly when they are equal. -/
theorem eq_word {a b : ℕ} (ha : a < 2 ^ 32) (hb : b < 2 ^ 32) :
    IntOp.cmpi .eq (BitVec.ofNat 32 a) (BitVec.ofNat 32 b) = bit1 (a = b) := by
  rw [WordCmp.cmpi_eq_ofNat ha hb]; unfold bit1; by_cases h : a = b <;> simp [h]

/-- A byte as a real number is its statement's indicator, -/
theorem sitofp_bit8 (p : Prop) : (FloatOps.sitofp .f32 (bit8 p) : Ideal .f32) = ind p := by
  show ((((bit8 p).toInt : ℤ) : ℝ) : EReal) = ind p
  rw [toInt_bit8]; unfold one ind; by_cases h : p <;> simp [h]
/-- and so is a bit. -/
theorem sitofp_bit1 (p : Prop) : (FloatOps.sitofp .f32 ((bit1 p).setWidth 32) : Ideal .f32) = ind p := by
  show (((((bit1 p).setWidth 32).toInt : ℤ) : ℝ) : EReal) = ind p
  unfold bit1 ind; by_cases h : p <;> simp [h]

/-! ## The masks -/

/-- The diagonal's bit in a tile, from the tile's place. -/
theorem eye_apply {rb ct : ℕ} (hrb : rb < 10) (hct : ct < 5) (p : Fin 1024) (q : Fin 2048) :
    k0_pay9 (BitVec.ofNat 32 rb) (BitVec.ofNat 32 ct) (ix2 p q) = bit1 (1024 * rb + p.val = 2048 * ct + q.val) := by
  pointwise [k0_pay9]
  rw [Scalar.muli, Scalar.muli, IntOp.muli, IntOp.muli, IntOp.addi, IntOp.addi, show (1024#32 : BitVec 32) = BitVec.ofNat 32 1024 from rfl,
    show (2048#32 : BitVec 32) = BitVec.ofNat 32 2048 from rfl, ← BitVec.ofNat_mul, ← BitVec.ofNat_mul, ← BitVec.ofNat_add,
    ← BitVec.ofNat_add, eq_word (by omega) (by omega), mul_comm rb, mul_comm ct]

/-- A tile holds a relation's truth values on the rows from `r` and the columns from `c`. -/
def Tile {n m : ℕ} (x : (⟨2, ![n, m]⟩ : Shape).Idx → BitVec 8) (M : ℕ → ℕ → Prop) (r c : ℕ) : Prop :=
  ∀ (p : Fin n) (q : Fin m), x (ix2 p q) = bit8 (M (r + p.val) (c + q.val))

/-- A tile of the accumulator holds, of the first `n` middle nodes, how many join its row's node to its column's. -/
def Counts (a : IVec S1024x2048 32) (M E : ℕ → ℕ → Prop) (r c n : ℕ) : Prop :=
  ∀ (p : Fin 1024) (q : Fin 2048), a (ix2 p q) = BitVec.ofNat 32 (tally (fun k => M (r + p.val) k ∧ E k (c + q.val)) n)

variable {E : ℕ → ℕ → Prop}

/-- The accumulator is positive exactly where some middle node joins the two. -/
theorem counts_pos (hE : Small E) (M : ℕ → ℕ → Prop) (i j : ℕ) :
    IntOp.cmpi .sgt (BitVec.ofNat 32 (tally (fun k => M i k ∧ E k j) 10240)) 0#32 = bit1 (∃ k, M i k ∧ E k j) := by
  rw [pos_word (tally_le _ _)]
  refine bit1_congr (tally_pos.trans ⟨fun ⟨k, _, h⟩ => ⟨k, h⟩, fun ⟨k, h⟩ => ⟨k, ?_, h⟩⟩)
  have := (hE _ _ h.2).1
  omega

/-! ## The first two hops' kernel -/

section First
variable {rb ct : ℕ} (hrb : rb < 10) (hct : ct < 5) (hE : Small E)
  {at_ : IVec S1024x2048 8} (hat : Tile at_ E (1024 * rb) (2048 * ct))
  {a : IVec S1024x2048 32} (ha : Counts a (Hop1 E) E (1024 * rb) (2048 * ct) 10240)

include hrb hct hat in
/-- A tile of the first frontier, as real numbers, -/
theorem first_frontier (p : Fin 1024) (q : Fin 2048) :
    k0_pay16 (F := Ideal) (BitVec.ofNat 32 rb) (BitVec.ofNat 32 ct) at_ (ix2 p q) = ind (Hop1 E (1024 * rb + p.val) (2048 * ct + q.val)) := by
  unfold k0_pay16 k0_pay8
  pointwise
  rw [eye_apply hrb hct, select_bit1, hat, sitofp_bit8]
  unfold Hop1
  split
  · next h => exact (ind_false fun h' => h'.2 h).symm
  · next h => exact congrArg ind (propext ⟨fun e => ⟨e, h⟩, And.left⟩)

include hrb hct hE hat ha in
/-- of the second, as bits, -/
theorem second_frontier (p : Fin 1024) (q : Fin 2048) :
    k0_pay10 (F := Ideal) (BitVec.ofNat 32 rb) (BitVec.ofNat 32 ct) a at_ (ix2 p q) = bit1 (Hop2 E (1024 * rb + p.val) (2048 * ct + q.val)) := by
  unfold k0_pay10 k0_pay8
  pointwise
  rw [eye_apply hrb hct, hat, ha, counts_pos hE, eq_zero_bit8, not_bit1, and_bit1, and_bit1]
  rfl

include hrb hct hE hat ha in
/-- as real numbers, -/
theorem second_weights (p : Fin 1024) (q : Fin 2048) :
    k0_pay11 (F := Ideal) (BitVec.ofNat 32 rb) (BitVec.ofNat 32 ct) a at_ (ix2 p q) = ind (Hop2 E (1024 * rb + p.val) (2048 * ct + q.val)) := by
  unfold k0_pay11
  pointwise
  rw [second_frontier hrb hct hE hat ha, sitofp_bit1]

include hrb hct hE hat ha in
/-- and as bytes. -/
theorem second_tile : Tile (k0_pay15 (F := Ideal) (BitVec.ofNat 32 rb) (BitVec.ofNat 32 ct) a at_) (Hop2 E) (1024 * rb) (2048 * ct) := by
  intro p q
  unfold k0_pay15
  pointwise
  rw [second_frontier hrb hct hE hat ha, setWidth_bit1]

include hrb hct hat in
/-- What a column block adds to the first frontier's sums, -/
theorem first_sum (x : FVec Ideal S2048x128 .f32) (p : Fin 1024) (d : Fin 128) :
    k0_pay17 (F := Ideal) (BitVec.ofNat 32 rb) (BitVec.ofNat 32 ct) at_ x (ix2 p d)
      = ∑ q : Fin 2048, ind (Hop1 E (1024 * rb + p.val) (2048 * ct + q.val)) * x (ix2 q d) := by
  unfold k0_pay17 k0_pay12
  pointwise
  exact Finset.sum_congr rfl fun q _ => by rw [first_frontier hrb hct hat]

include hrb hct hat in
/-- to its counts, -/
theorem first_count (p : Fin 1024) (d : Fin 1) :
    k0_pay18 (F := Ideal) (BitVec.ofNat 32 rb) (BitVec.ofNat 32 ct) at_ (ix2 p d)
      = ∑ q : Fin 2048, ind (Hop1 E (1024 * rb + p.val) (2048 * ct + q.val)) := by
  unfold k0_pay18
  pointwise
  exact Finset.sum_congr rfl fun q _ => by rw [first_frontier hrb hct hat]

include hrb hct hE hat ha in
/-- to the second frontier's sums, -/
theorem second_sum (x : FVec Ideal S2048x128 .f32) (p : Fin 1024) (d : Fin 128) :
    k0_pay13 (F := Ideal) (BitVec.ofNat 32 rb) (BitVec.ofNat 32 ct) a at_ x (ix2 p d)
      = ∑ q : Fin 2048, ind (Hop2 E (1024 * rb + p.val) (2048 * ct + q.val)) * x (ix2 q d) := by
  unfold k0_pay13 k0_pay12
  pointwise
  exact Finset.sum_congr rfl fun q _ => by rw [second_weights hrb hct hE hat ha]

include hrb hct hE hat ha in
/-- and to its counts. -/
theorem second_count (p : Fin 1024) (d : Fin 1) :
    k0_pay14 (F := Ideal) (BitVec.ofNat 32 rb) (BitVec.ofNat 32 ct) a at_ (ix2 p d)
      = ∑ q : Fin 2048, ind (Hop2 E (1024 * rb + p.val) (2048 * ct + q.val)) := by
  unfold k0_pay14
  pointwise
  exact Finset.sum_congr rfl fun q _ => by rw [second_weights hrb hct hE hat ha]

end First

/-! ## The third hop's kernel -/

section Second
variable {i : grid1.Coords} (hE : Small E)
  {at_ f2 : IVec S1024x2048 8} (hat : Tile at_ E (1024 * (i 0).val) (2048 * (i 1).val))
  (hf2 : Tile f2 (Hop2 E) (1024 * (i 0).val) (2048 * (i 1).val))
  {a : IVec S1024x2048 32} (ha : Counts a (Hop2 E) E (1024 * (i 0).val) (2048 * (i 1).val) 10240)

include hE hat hf2 ha in
/-- A tile of the third frontier. -/
theorem third_frontier (p : Fin 1024) (q : Fin 2048) :
    k1_pay3 (F := Ideal) i a at_ f2 (ix2 p q) = ind (Hop3 E (1024 * (i 0).val + p.val) (2048 * (i 1).val + q.val)) := by
  have he : ∀ p q, k0_pay9 (BitVec.ofNat 32 (i 0).val) (BitVec.ofNat 32 (i 1).val) (ix2 p q) = _ := fun p q =>
    eye_apply (i 0).isLt (i 1).isLt p q
  unfold k0_pay9 at he
  unfold k1_pay3
  pointwise
  pointwise at he
  rw [he, hat, hf2, ha, counts_pos hE, eq_zero_bit8, eq_zero_bit8, not_bit1, and_bit1, and_bit1, and_bit1, sitofp_bit1]
  unfold Hop3
  congr 1
  exact propext ⟨fun ⟨⟨h1, h2, h3⟩, h4⟩ => ⟨h1, h2, h3, h4⟩, fun ⟨h1, h2, h3, h4⟩ => ⟨⟨h1, h2, h3⟩, h4⟩⟩

include hE hat hf2 ha in
/-- What a column block adds to the third frontier's sums, -/
theorem third_sum (x : FVec Ideal S2048x128 .f32) (p : Fin 1024) (d : Fin 128) :
    k1_pay4 (F := Ideal) i a at_ f2 x (ix2 p d)
      = ∑ q : Fin 2048, ind (Hop3 E (1024 * (i 0).val + p.val) (2048 * (i 1).val + q.val)) * x (ix2 q d) := by
  unfold k1_pay4
  pointwise
  exact Finset.sum_congr rfl fun q _ => by rw [third_frontier hE hat hf2 ha]

include hE hat hf2 ha in
/-- and to its counts. -/
theorem third_count (p : Fin 1024) (d : Fin 1) :
    k1_pay5 (F := Ideal) i a at_ f2 (ix2 p d)
      = ∑ q : Fin 2048, ind (Hop3 E (1024 * (i 0).val + p.val) (2048 * (i 1).val + q.val)) := by
  unfold k1_pay5
  pointwise
  exact Finset.sum_congr rfl fun q _ => by rw [third_frontier hE hat hf2 ha]

end Second

/-! ## One contraction step -/

/-- What a contraction step adds to the accumulator: of the step's middle nodes, how many join the two. -/
theorem step_apply {x : IVec S1024x2048 8} {w : IVec S2048x2048 8} {M : ℕ → ℕ → Prop} {r c k : ℕ} (hx : Tile x M r k) (hw : Tile w E k c)
    (a : IVec S1024x2048 32) (p : Fin 1024) (q : Fin 2048) :
    k0_pay2 (F := Ideal) a x w (ix2 p q) = a (ix2 p q) + BitVec.ofNat 32 (∑ l : Fin 2048, one (M (r + p.val) (k + l.val) ∧ E (k + l.val) (c + q.val))) := by
  unfold k0_pay2
  simp only [shapeCast_self]
  exact congrArg (a (ix2 p q) + ·) (product_apply x w p q _ _ (fun l => hx p l) (fun l => hw l q))

/-- The same in the third hop's kernel. -/
theorem step1_apply {x : IVec S1024x2048 8} {w : IVec S2048x2048 8} {M : ℕ → ℕ → Prop} {r c k : ℕ} (hx : Tile x M r k) (hw : Tile w E k c)
    (a : IVec S1024x2048 32) (p : Fin 1024) (q : Fin 2048) :
    k1_pay2 (F := Ideal) a x w (ix2 p q) = a (ix2 p q) + BitVec.ofNat 32 (∑ l : Fin 2048, one (M (r + p.val) (k + l.val) ∧ E (k + l.val) (c + q.val))) := by
  unfold k1_pay2
  simp only [shapeCast_self]
  exact congrArg (a (ix2 p q) + ·) (product_apply x w p q _ _ (fun l => hx p l) (fun l => hw l q))

/-- On the diagonal the left tile's own diagonal is taken out first. -/
theorem stepDiag_apply {i : grid0.Coords} {x : IVec S1024x2048 8} {w : IVec S2048x2048 8} {c : ℕ} (hx : Tile x E (1024 * (i 0).val) (2048 * (i 2).val))
    (hw : Tile w E (2048 * (i 2).val) c) (a : IVec S1024x2048 32) (p : Fin 1024) (q : Fin 2048) :
    k0_pay3 (F := Ideal) i x a w (ix2 p q) = a (ix2 p q) + BitVec.ofNat 32 (∑ l : Fin 2048,
      one (Hop1 E (1024 * (i 0).val + p.val) (2048 * (i 2).val + l.val) ∧ E (2048 * (i 2).val + l.val) (c + q.val))) := by
  have he : ∀ p q, k0_pay9 (BitVec.ofNat 32 (i 0).val) (BitVec.ofNat 32 (i 2).val) (ix2 p q) = _ := fun p q =>
    eye_apply (i 0).isLt (i 2).isLt p q
  unfold k0_pay9 at he
  unfold k0_pay3
  simp only [shapeCast_self]
  refine congrArg (a (ix2 p q) + ·) (product_apply _ w p q _ _ (fun l => ?_) (fun l => hw l q))
  pointwise
  pointwise at he
  rw [he, select_bit1, hx]
  unfold Hop1
  split
  · next h => exact (if_neg fun h' => h'.2 h).symm
  · next h => exact congrArg bit8 (propext ⟨fun e => ⟨e, h⟩, And.left⟩)

end Cert.KernelIdeal.Hop

end
-- ==== Proof.Value.Trails.lean ====
/- Running totals over a grid walked row block by row block, within it column block by column block, within it
   contraction step by contraction step, five of each: what an accumulator that restarts at each column block holds,
   and what an output that restarts at each row block and is added into at each last contraction step holds. -/
module

public import proofs.«01_k».proof.Proof.First.Region
public import proofs.«01_k».proof.Proof.Value.Graph

@[expose] public section

noncomputable section

namespace Cert.KernelIdeal.Hop

open Cert.Hops
open Finset (range)

/-- An accumulator of words that restarts at every fifth point holds, after a point, the terms of the points since. -/
theorem trail_restart {S : Type} (step : ℕ → (S → BitVec 32) → S → BitVec 32) (a : S → BitVec 32) (term : ℕ → S → ℕ)
    (h0 : ∀ t, t < 250 → t % 5 = 0 → ∀ d y, step t d y = BitVec.ofNat 32 (term t y))
    (h1 : ∀ t, t < 250 → t % 5 ≠ 0 → ∀ d y, step t d y = d y + BitVec.ofNat 32 (term t y)) (t : ℕ) (ht : t < 250) (y : S) :
    trail step a t y = BitVec.ofNat 32 (∑ s ∈ range (t % 5 + 1), term (t - t % 5 + s) y) := by
  induction t with
  | zero => rw [trail, h0 0 ht rfl]; simp
  | succ n ih =>
    rw [trail]
    by_cases hz : (n + 1) % 5 = 0
    · rw [h0 _ ht hz, hz]; simp
    · rw [h1 _ ht hz, ih (by omega), ← BitVec.ofNat_add, Finset.sum_range_succ _ ((n + 1) % 5), show (n + 1) % 5 = n % 5 + 1 by omega,
        show n + 1 - (n % 5 + 1) = n - n % 5 by omega, show n - n % 5 + (n % 5 + 1) = n + 1 by omega]

/-- An output that restarts at the first column block's last step and is added into at the other blocks' holds, after a
    point, the terms of the column blocks the row block has finished. -/
theorem trail_rows {S M : Type} [AddCommMonoid M] (step : ℕ → (S → M) → S → M) (a : S → M) (term : ℕ → S → M)
    (hn : ∀ t, t < 250 → t % 5 ≠ 4 → ∀ d, step t d = d)
    (h0 : ∀ t, t < 250 → t % 5 = 4 → t / 5 % 5 = 0 → ∀ d y, step t d y = term t y)
    (h1 : ∀ t, t < 250 → t % 5 = 4 → t / 5 % 5 ≠ 0 → ∀ d y, step t d y = d y + term t y) (t : ℕ) (ht : t < 250) (y : S)
    (hp : 4 ≤ t % 25) :
    trail step a t y = ∑ s ∈ range ((t % 25 + 1) / 5), term (t - t % 25 + 5 * s + 4) y := by
  induction t with
  | zero => simp at hp
  | succ n ih =>
    rw [trail]
    by_cases hl : (n + 1) % 5 = 4
    · by_cases hz : (n + 1) / 5 % 5 = 0
      · rw [h0 _ ht hl hz, show ((n + 1) % 25 + 1) / 5 = 1 by omega, Finset.sum_range_one,
          show n + 1 - (n + 1) % 25 + 5 * 0 + 4 = n + 1 by omega]
      · rw [h1 _ ht hl hz, ih (by omega) (by omega), show ((n + 1) % 25 + 1) / 5 = (n % 25 + 1) / 5 + 1 by omega,
          Finset.sum_range_succ, show n + 1 - (n + 1) % 25 = n - n % 25 by omega,
          show n - n % 25 + 5 * ((n % 25 + 1) / 5) + 4 = n + 1 by omega]
    · rw [hn _ ht hl, ih (by omega) (by omega), show ((n + 1) % 25 + 1) / 5 = (n % 25 + 1) / 5 by omega,
        show n + 1 - (n + 1) % 25 = n - n % 25 by omega]

/-- Sums over tiles of 2048 positions, put together. -/
theorem sum_tiles {M : Type} [AddCommMonoid M] (f : ℕ → M) (n : ℕ) :
    ∑ s ∈ range n, ∑ l : Fin 2048, f (2048 * s + l.val) = ∑ k ∈ range (2048 * n), f k := by
  induction n with
  | zero => simp
  | succ n ih =>
    rw [Finset.sum_range_succ, ih, Nat.mul_succ, Finset.sum_range_add, Fin.sum_univ_eq_sum_range (fun l => f (2048 * n + l))]

end Cert.KernelIdeal.Hop

end
-- ==== Proof.Value.First.lean ====
/- What the first two hops' kernel writes: at arrays holding the graph's adjacency and the padded features, the second
   frontier, and each node's sum and tally over its first and over its second frontier. -/
module

public import proofs.«01_k».proof.Proof.Value.Tiles
public import proofs.«01_k».proof.Proof.Value.Trails
public import Idealize.ShloMosaic.Lib.Pipeline.ValueKit
public import Idealize.ShloMosaic.Lib.Pipeline.Covers

@[expose] public section

set_option maxRecDepth 16384

noncomputable section

namespace Cert.KernelIdeal.Hop

open Cert.KernelIdeal.Gen Cert.Hops
open Idealize.ShloMosaic Idealize.ShloMosaic.TcCoe
open Finset (range)

/-- The windows' block indices at a point. -/
theorem idx0 : ∀ t : Fin cfg0.N, win0_0.index t = ![t.val / 25, t.val % 5] ∧ win0_1.index t = ![t.val % 5, t.val / 5 % 5]
    ∧ win0_2.index t = ![t.val / 25, t.val / 5 % 5] ∧ win0_3.index t = ![t.val / 5 % 5, 0] ∧ win0_4.index t = ![t.val / 25, t.val / 5 % 5]
    ∧ win0_5.index t = ![t.val / 25, 0] ∧ win0_6.index t = ![t.val / 25, 0] ∧ win0_7.index t = ![t.val / 25, 0]
    ∧ win0_8.index t = ![t.val / 25, 0] := by
  decide +kernel

variable (V : (c : Dev nD) → (b : Ref sig .tc) → Buf (Elt Ideal) ((c : Thread nD τ).loc b)) (c : Dev nD)
variable {E : ℕ → ℕ → Prop} {X : ℕ → ℕ → EReal}
  (hA : ∀ i j : Fin 10240, (V c main_v19 : S10240x10240.Idx → BitVec 8) (ix2 i j) = bit8 (E i.val j.val))
  (hX : ∀ (i : Fin 10240) (d : Fin 128), (V c main_v20 : S10240x128.Idx → EReal) (ix2 i d) = X i.val d.val)

/-! ## The input blocks -/

include hA in
/-- The left block at a point is the adjacency's tile of its row block and contraction step. -/
theorem tile0_0 (t : Fin cfg0.N) : Tile (iblk0 V c 0 t) E (1024 * (t.val / 25)) (2048 * (t.val % 5)) := by
  intro p q
  have ht : t.val < 250 := Nat.lt_of_lt_of_eq t.isLt N_0
  obtain ⟨e, -⟩ := idx0 t
  refine Eq.trans ?_ (hA ⟨1024 * (t.val / 25) + p.val, by omega⟩ ⟨2048 * (t.val % 5) + q.val, by omega⟩)
  blk_ext [iblk0, e]

include hA in
/-- The right block is the adjacency's tile of its contraction step and column block. -/
theorem tile0_1 (t : Fin cfg0.N) : Tile (iblk0 V c 1 t) E (2048 * (t.val % 5)) (2048 * (t.val / 5 % 5)) := by
  intro p q
  have ht : t.val < 250 := Nat.lt_of_lt_of_eq t.isLt N_0
  obtain ⟨-, e, -⟩ := idx0 t
  refine Eq.trans ?_ (hA ⟨2048 * (t.val % 5) + p.val, by omega⟩ ⟨2048 * (t.val / 5 % 5) + q.val, by omega⟩)
  blk_ext [iblk0, e]

include hA in
/-- The third block is the adjacency's tile of its row and column blocks. -/
theorem tile0_2 (t : Fin cfg0.N) : Tile (iblk0 V c 2 t) E (1024 * (t.val / 25)) (2048 * (t.val / 5 % 5)) := by
  intro p q
  have ht : t.val < 250 := Nat.lt_of_lt_of_eq t.isLt N_0
  obtain ⟨-, -, e, -⟩ := idx0 t
  refine Eq.trans ?_ (hA ⟨1024 * (t.val / 25) + p.val, by omega⟩ ⟨2048 * (t.val / 5 % 5) + q.val, by omega⟩)
  blk_ext [iblk0, e]

include hX in
/-- The features' block holds those of the column block's nodes. -/
theorem feats0 (t : Fin cfg0.N) (q : Fin 2048) (d : Fin 128) :
    (iblk0 V c 3 t : S2048x128.Idx → EReal) (ix2 q d) = X (2048 * (t.val / 5 % 5) + q.val) d.val := by
  have ht : t.val < 250 := Nat.lt_of_lt_of_eq t.isLt N_0
  obtain ⟨-, -, -, e, -⟩ := idx0 t
  refine Eq.trans ?_ (hX ⟨2048 * (t.val / 5 % 5) + q.val, by omega⟩ d)
  blk_ext [iblk0, e]

/-! ## The accumulator -/

/-- A number below the grid's size names its point. -/
theorem point0 {t : ℕ} (ht : t < 250) : (pt0 t).val = t := Nat.mod_eq_of_lt ht

/-- The grid's coordinates at a point, from its number. -/
theorem place0 (t : Fin cfg0.N) : (grid0.coords t 0).val = t.val / 25 ∧ (grid0.coords t 1).val = t.val / 5 % 5
    ∧ (grid0.coords t 2).val = t.val % 5 := by
  have ht : t.val < 250 := Nat.lt_of_lt_of_eq t.isLt N_0
  obtain ⟨e0, e1, e2⟩ := coords0 t
  omega

/-- What a point adds to the accumulator: of its 2048 middle nodes, how many join the two. -/
def found (M E : ℕ → ℕ → Prop) (t : ℕ) (y : S1024x2048.Idx) : ℕ :=
  ∑ l : Fin 2048, one (M (1024 * (t / 25) + (y 0).val) (2048 * (t % 5) + l.val)
    ∧ E (2048 * (t % 5) + l.val) (2048 * (t / 5 % 5) + (y 1).val))

include hA in
/-- What a point makes of the accumulator: cleared at a first contraction step, it takes in the number of its middle nodes that join
    two nodes. -/
theorem acc0_apply (t : Fin cfg0.N) (a : Vec Ideal S1024x2048 .i32) (y : S1024x2048.Idx) :
    acc0 (grid0.coords t) (iblk0 V c 0 t) (iblk0 V c 1 t) a y
      = (if t.val % 5 = 0 then 0#32 else a y) + BitVec.ofNat 32 (found (Hop1 E) E t.val y) := by
  have ht : t.val < 250 := Nat.lt_of_lt_of_eq t.isLt N_0
  obtain ⟨e0, e1, e2⟩ := place0 t
  have hz : ∀ y, (if resets0 (grid0.coords t) then k0_pay1 else a) y = if t.val % 5 = 0 then 0#32 else a y := by
    intro y
    simp only [resets0_iff]
    split <;> rfl
  obtain ⟨p, q, rfl⟩ := exists_ix2 y
  unfold acc0
  split
  · have h1 := stepDiag_apply (i := grid0.coords t) (x := iblk0 V c 0 t) (w := iblk0 V c 1 t) (E := E) (c := 2048 * (t.val / 5 % 5))
      (by rw [e0, e2]; exact tile0_0 V c hA t) (by rw [e2]; exact tile0_1 V c hA t)
      (if resets0 (grid0.coords t) then k0_pay1 else a) p q
    rw [h1, hz, e0, e2]
    rfl
  · next hd =>
    rw [diag0_iff] at hd
    have h50 : t.val / 50 = t.val / 25 / 2 := by rw [Nat.div_div_eq_div_mul]
    have hx : Tile (iblk0 V c 0 t) (Hop1 E) (1024 * (t.val / 25)) (2048 * (t.val % 5)) := fun p q => by
      rw [tile0_0 V c hA t p q]
      refine congrArg bit8 (propext ⟨fun h => ⟨h, fun heq => hd ?_⟩, And.left⟩)
      have key : ∀ u v a b : ℕ, a < 1024 → b < 2048 → 1024 * u + a = 2048 * v + b → u / 2 = v := fun u v a b _ _ _ => by omega
      have := key _ _ _ _ p.isLt q.isLt heq
      omega
    refine (step_apply hx (tile0_1 V c hA t) _ p q).trans ?_
    rw [hz]
    rfl

include hA in
/-- The accumulator after a point, of the row and column blocks the point is in. -/
theorem counts0 (t : ℕ) (ht : t < 250) :
    Counts (accs0 V c t) (Hop1 E) E (1024 * (t / 25)) (2048 * (t / 5 % 5)) (2048 * (t % 5 + 1)) := by
  intro p q
  unfold accs0
  rw [trail_restart _ _ (found (Hop1 E) E)
    (fun t ht h d y => by rw [acc0_apply V c hA, point0 ht, if_pos h, BitVec.zero_add])
    (fun t ht h d y => by rw [acc0_apply V c hA, point0 ht, if_neg h]) t ht]
  unfold tally
  rw [← sum_tiles]
  refine congrArg _ (Finset.sum_congr rfl fun s hs => ?_)
  rw [Finset.mem_range] at hs
  unfold found
  rw [show (t - t % 5 + s) / 25 = t / 25 by omega, show (t - t % 5 + s) % 5 = s by omega,
    show (t - t % 5 + s) / 5 % 5 = t / 5 % 5 by omega]
  rfl

include hA in
/-- At the last contraction step every middle node has been counted. -/
theorem counted0 (t : ℕ) (ht : t < 250) (hl : t % 5 = 4) :
    Counts (accs0 V c t) (Hop1 E) E (1024 * (t / 25)) (2048 * (t / 5 % 5)) 10240 := by
  have h := counts0 V c hA t ht
  rwa [hl] at h

/-! ## The outputs' buffers -/

variable (hE : Small E)

/-- What a row block's node gathers over the column block a point is in: the sum of the features of the related nodes, -/
def gathered (R : ℕ → ℕ → Prop) (X : ℕ → ℕ → EReal) (t : ℕ) (y : S1024x128.Idx) : EReal :=
  ∑ q : Fin 2048, ind (R (1024 * (t / 25) + (y 0).val) (2048 * (t / 5 % 5) + q.val)) * X (2048 * (t / 5 % 5) + q.val) (y 1).val
/-- and their number. -/
def counted (R : ℕ → ℕ → Prop) (t : ℕ) (y : S1024x128.Idx) : EReal :=
  ∑ q : Fin 2048, ind (R (1024 * (t / 25) + (y 0).val) (2048 * (t / 5 % 5) + q.val))

/-- Gathered over all the column blocks, -/
theorem gathered_all (R : ℕ → ℕ → Prop) (X : ℕ → ℕ → EReal) (t : ℕ) (hl : t % 25 = 24) (y : S1024x128.Idx) :
    ∑ s ∈ range ((t % 25 + 1) / 5), gathered R X (t - t % 25 + 5 * s + 4) y = hsum R X (1024 * (t / 25) + (y 0).val) (y 1).val := by
  unfold hsum
  rw [hl, show 10240 = 2048 * 5 from rfl, ← sum_tiles]
  refine Finset.sum_congr rfl fun s hs => ?_
  rw [Finset.mem_range] at hs
  unfold gathered
  rw [show (t - 24 + 5 * s + 4) / 25 = t / 25 by omega, show (t - 24 + 5 * s + 4) / 5 % 5 = s by omega]
/-- and counted. -/
theorem counted_all (R : ℕ → ℕ → Prop) (t : ℕ) (hl : t % 25 = 24) (y : S1024x128.Idx) :
    ∑ s ∈ range ((t % 25 + 1) / 5), counted R (t - t % 25 + 5 * s + 4) y = hcnt R (1024 * (t / 25) + (y 0).val) := by
  unfold hcnt
  rw [hl, show 10240 = 2048 * 5 from rfl, ← sum_tiles]
  refine Finset.sum_congr rfl fun s hs => ?_
  rw [Finset.mem_range] at hs
  unfold counted
  rw [show (t - 24 + 5 * s + 4) / 25 = t / 25 by omega, show (t - 24 + 5 * s + 4) / 5 % 5 = s by omega]

include hA hX in
/-- The first frontier's sums: at a last contraction step they take in the features gathered in the column block. -/
theorem sum0_apply (t : Fin cfg0.N) (d : Vec Ideal S1024x128 .f32) (y : S1024x128.Idx) :
    sum0 (grid0.coords t) (iblk0 V c 2 t) (iblk0 V c 3 t) d y
      = if t.val % 5 = 4 then if t.val / 5 % 5 = 0 then gathered (Hop1 E) X t.val y else d y + gathered (Hop1 E) X t.val y else d y := by
  have ht : t.val < 250 := Nat.lt_of_lt_of_eq t.isLt N_0
  obtain ⟨e0, e1, e2⟩ := place0 t
  have hs : ∀ y, k0_pay17 (F := Ideal) (BitVec.ofNat 32 (t.val / 25)) (BitVec.ofNat 32 (t.val / 5 % 5)) (iblk0 V c 2 t) (iblk0 V c 3 t) y
      = gathered (Hop1 E) X t.val y := fun y => by
    obtain ⟨p, q, rfl⟩ := exists_ix2 y
    refine (first_sum (by omega) (by omega) (tile0_2 V c hA t) _ p q).trans ?_
    exact Finset.sum_congr rfl fun q _ => by rw [feats0 V c hX t]; rfl
  unfold sum0 k0_pay4
  simp only [last0_iff, left0_iff, e0, e1, shapeCast_self]
  split
  · split
    · exact hs y
    · exact congrArg (d y + ·) (hs y)
  · rfl

include hA in
/-- The first frontier's counts: they take in the number of its nodes in the column block. -/
theorem cnt0_apply (t : Fin cfg0.N) (d : Vec Ideal S1024x128 .f32) (y : S1024x128.Idx) :
    cnt0 (grid0.coords t) (iblk0 V c 2 t) d y
      = if t.val % 5 = 4 then if t.val / 5 % 5 = 0 then counted (Hop1 E) t.val y else d y + counted (Hop1 E) t.val y else d y := by
  have ht : t.val < 250 := Nat.lt_of_lt_of_eq t.isLt N_0
  obtain ⟨e0, e1, e2⟩ := place0 t
  have hs : ∀ p, k0_pay18 (F := Ideal) (BitVec.ofNat 32 (t.val / 25)) (BitVec.ofNat 32 (t.val / 5 % 5)) (iblk0 V c 2 t) (ix2 p 0) = _ := fun p =>
    first_count (by omega) (by omega) (tile0_2 V c hA t) p 0
  unfold cnt0 k0_pay5 k0_pay19
  simp only [last0_iff, left0_iff, e0, e1, shapeCast_self]
  split
  · split
    · pointwise
      exact hs (y 0)
    · pointwise
      exact congrArg (d y + ·) (hs (y 0))
  · rfl

include hA hX hE in
/-- The second frontier's sums, likewise. -/
theorem sum0'_apply (t : Fin cfg0.N) (d : Vec Ideal S1024x128 .f32) (y : S1024x128.Idx) :
    sum0' (grid0.coords t) (iblk0 V c 2 t) (iblk0 V c 3 t) (accs0 V c t.val) d y
      = if t.val % 5 = 4 then if t.val / 5 % 5 = 0 then gathered (Hop2 E) X t.val y else d y + gathered (Hop2 E) X t.val y else d y := by
  have ht : t.val < 250 := Nat.lt_of_lt_of_eq t.isLt N_0
  obtain ⟨e0, e1, e2⟩ := place0 t
  have hs : t.val % 5 = 4 → ∀ y, k0_pay13 (F := Ideal) (BitVec.ofNat 32 (t.val / 25)) (BitVec.ofNat 32 (t.val / 5 % 5)) (accs0 V c t.val) (iblk0 V c 2 t) (iblk0 V c 3 t) y
      = gathered (Hop2 E) X t.val y := fun hl y => by
    obtain ⟨p, q, rfl⟩ := exists_ix2 y
    refine (second_sum (by omega) (by omega) hE (tile0_2 V c hA t) (counted0 V c hA t.val ht hl) _ p q).trans ?_
    exact Finset.sum_congr rfl fun q _ => by rw [feats0 V c hX t]; rfl
  unfold sum0' k0_pay6
  simp only [last0_iff, left0_iff, e0, e1, shapeCast_self]
  split
  · next hl =>
    split
    · exact hs hl y
    · exact congrArg (d y + ·) (hs hl y)
  · rfl

include hA hE in
/-- The second frontier's counts, likewise. -/
theorem cnt0'_apply (t : Fin cfg0.N) (d : Vec Ideal S1024x128 .f32) (y : S1024x128.Idx) :
    cnt0' (grid0.coords t) (iblk0 V c 2 t) (accs0 V c t.val) d y
      = if t.val % 5 = 4 then if t.val / 5 % 5 = 0 then counted (Hop2 E) t.val y else d y + counted (Hop2 E) t.val y else d y := by
  have ht : t.val < 250 := Nat.lt_of_lt_of_eq t.isLt N_0
  obtain ⟨e0, e1, e2⟩ := place0 t
  have hs : t.val % 5 = 4 → ∀ p, k0_pay14 (F := Ideal) (BitVec.ofNat 32 (t.val / 25)) (BitVec.ofNat 32 (t.val / 5 % 5)) (accs0 V c t.val) (iblk0 V c 2 t) (ix2 p 0) = _ := fun hl p =>
    second_count (by omega) (by omega) hE (tile0_2 V c hA t) (counted0 V c hA t.val ht hl) p 0
  unfold cnt0' k0_pay7 k0_pay20
  simp only [last0_iff, left0_iff, e0, e1, shapeCast_self]
  split
  · next hl =>
    split
    · pointwise
      exact hs hl (y 0)
    · pointwise
      exact congrArg (d y + ·) (hs hl (y 0))
  · rfl

/-! ## The outputs after a row block's last point -/

include hA hX in
/-- A row block's sums over the first frontier, at its last point. -/
theorem outs0_5_last (t : ℕ) (ht : t < 250) (hl : t % 25 = 24) (y : S1024x128.Idx) :
    outs0_5 V c t y = hsum (Hop1 E) X (1024 * (t / 25) + (y 0).val) (y 1).val := by
  unfold outs0_5
  rw [trail_rows _ _ (gathered (Hop1 E) X)
    (fun t ht h d => funext fun y => by rw [sum0_apply V c hA hX, point0 ht, if_neg h])
    (fun t ht h h' d y => by rw [sum0_apply V c hA hX, point0 ht, if_pos h, if_pos h'])
    (fun t ht h h' d y => by rw [sum0_apply V c hA hX, point0 ht, if_pos h, if_neg h']) t ht y (by omega), gathered_all _ _ _ hl]

include hA in
/-- Its counts of the first frontier. -/
theorem outs0_6_last (t : ℕ) (ht : t < 250) (hl : t % 25 = 24) (y : S1024x128.Idx) :
    outs0_6 V c t y = hcnt (Hop1 E) (1024 * (t / 25) + (y 0).val) := by
  unfold outs0_6
  rw [trail_rows _ _ (counted (Hop1 E))
    (fun t ht h d => funext fun y => by rw [cnt0_apply V c hA, point0 ht, if_neg h])
    (fun t ht h h' d y => by rw [cnt0_apply V c hA, point0 ht, if_pos h, if_pos h'])
    (fun t ht h h' d y => by rw [cnt0_apply V c hA, point0 ht, if_pos h, if_neg h']) t ht y (by omega), counted_all _ _ hl]

include hA hX hE in
/-- Its sums over the second frontier. -/
theorem outs0_7_last (t : ℕ) (ht : t < 250) (hl : t % 25 = 24) (y : S1024x128.Idx) :
    outs0_7 V c t y = hsum (Hop2 E) X (1024 * (t / 25) + (y 0).val) (y 1).val := by
  have h := fun t (ht : t < 250) => sum0'_apply V c hA hX hE (pt0 t)
  unfold outs0_7
  rw [trail_rows _ _ (gathered (Hop2 E) X)
    (fun t ht h' d => funext fun y => by have := h t ht d y; rw [point0 ht, if_neg h'] at this; exact this)
    (fun t ht h' h'' d y => by have := h t ht d y; rw [point0 ht, if_pos h', if_pos h''] at this; exact this)
    (fun t ht h' h'' d y => by have := h t ht d y; rw [point0 ht, if_pos h', if_neg h''] at this; exact this) t ht y (by omega), gathered_all _ _ _ hl]

include hA hE in
/-- Its counts of the second frontier. -/
theorem outs0_8_last (t : ℕ) (ht : t < 250) (hl : t % 25 = 24) (y : S1024x128.Idx) :
    outs0_8 V c t y = hcnt (Hop2 E) (1024 * (t / 25) + (y 0).val) := by
  have h := fun t (ht : t < 250) => cnt0'_apply V c hA hE (pt0 t)
  unfold outs0_8
  rw [trail_rows _ _ (counted (Hop2 E))
    (fun t ht h' d => funext fun y => by have := h t ht d y; rw [point0 ht, if_neg h'] at this; exact this)
    (fun t ht h' h'' d y => by have := h t ht d y; rw [point0 ht, if_pos h', if_pos h''] at this; exact this)
    (fun t ht h' h'' d y => by have := h t ht d y; rw [point0 ht, if_pos h', if_neg h''] at this; exact this) t ht y (by omega), counted_all _ _ hl]

/-! ## The arrays the region leaves -/

/-- The blocks of the second frontier cover it. -/
theorem covers0_4 : (cfg0.win 4).Covers :=
  (cfg0.win 4).covers_of_index_surj rfl (by decide) fun β => by
    have h0 : (β 0).val < 10 := (β 0).isLt
    have h1 : (β 1).val < 5 := (β 1).isLt
    have hn : 25 * (β 0).val + 5 * (β 1).val < cfg0.N := Nat.lt_of_lt_of_eq (by omega : 25 * (β 0).val + 5 * (β 1).val < 250) N_0.symm
    refine ⟨⟨25 * (β 0).val + 5 * (β 1).val, hn⟩, fun a => ?_⟩
    have e := (idx0 ⟨25 * (β 0).val + 5 * (β 1).val, hn⟩).2.2.2.2.1
    refine (congrFun e a).trans ?_
    match a with
    | ⟨0, _⟩ => show (25 * (β 0).val + 5 * (β 1).val) / 25 = (β 0).val; omega
    | ⟨1, _⟩ => show (25 * (β 0).val + 5 * (β 1).val) / 5 % 5 = (β 1).val; omega

/-- The row blocks of the first frontier's sums cover them. -/
theorem covers0_5 : (cfg0.win 5).Covers :=
  (cfg0.win 5).covers_of_index_surj rfl (by decide) fun β => by
    have h0 : (β 0).val < 10 := (β 0).isLt
    have h1 : (β 1).val < 1 := (β 1).isLt
    have hn : 25 * (β 0).val < cfg0.N := Nat.lt_of_lt_of_eq (by omega : 25 * (β 0).val < 250) N_0.symm
    refine ⟨⟨25 * (β 0).val, hn⟩, fun a => ?_⟩
    have e := (idx0 ⟨25 * (β 0).val, hn⟩).2.2.2.2.2.1
    refine (congrFun e a).trans ?_
    match a with
    | ⟨0, _⟩ => show (25 * (β 0).val) / 25 = (β 0).val; omega
    | ⟨1, _⟩ => show 0 = (β 1).val; omega

/-- The row blocks of its counts cover them. -/
theorem covers0_6 : (cfg0.win 6).Covers :=
  (cfg0.win 6).covers_of_index_surj rfl (by decide) fun β => by
    have h0 : (β 0).val < 10 := (β 0).isLt
    have h1 : (β 1).val < 1 := (β 1).isLt
    have hn : 25 * (β 0).val < cfg0.N := Nat.lt_of_lt_of_eq (by omega : 25 * (β 0).val < 250) N_0.symm
    refine ⟨⟨25 * (β 0).val, hn⟩, fun a => ?_⟩
    have e := (idx0 ⟨25 * (β 0).val, hn⟩).2.2.2.2.2.2.1
    refine (congrFun e a).trans ?_
    match a with
    | ⟨0, _⟩ => show (25 * (β 0).val) / 25 = (β 0).val; omega
    | ⟨1, _⟩ => show 0 = (β 1).val; omega

/-- The row blocks of the second frontier's sums cover them. -/
theorem covers0_7 : (cfg0.win 7).Covers :=
  (cfg0.win 7).covers_of_index_surj rfl (by decide) fun β => by
    have h0 : (β 0).val < 10 := (β 0).isLt
    have h1 : (β 1).val < 1 := (β 1).isLt
    have hn : 25 * (β 0).val < cfg0.N := Nat.lt_of_lt_of_eq (by omega : 25 * (β 0).val < 250) N_0.symm
    refine ⟨⟨25 * (β 0).val, hn⟩, fun a => ?_⟩
    have e := (idx0 ⟨25 * (β 0).val, hn⟩).2.2.2.2.2.2.2.1
    refine (congrFun e a).trans ?_
    match a with
    | ⟨0, _⟩ => show (25 * (β 0).val) / 25 = (β 0).val; omega
    | ⟨1, _⟩ => show 0 = (β 1).val; omega

/-- The row blocks of its counts cover them. -/
theorem covers0_8 : (cfg0.win 8).Covers :=
  (cfg0.win 8).covers_of_index_surj rfl (by decide) fun β => by
    have h0 : (β 0).val < 10 := (β 0).isLt
    have h1 : (β 1).val < 1 := (β 1).isLt
    have hn : 25 * (β 0).val < cfg0.N := Nat.lt_of_lt_of_eq (by omega : 25 * (β 0).val < 250) N_0.symm
    refine ⟨⟨25 * (β 0).val, hn⟩, fun a => ?_⟩
    have e := (idx0 ⟨25 * (β 0).val, hn⟩).2.2.2.2.2.2.2.2
    refine (congrFun e a).trans ?_
    match a with
    | ⟨0, _⟩ => show (25 * (β 0).val) / 25 = (β 0).val; omega
    | ⟨1, _⟩ => show 0 = (β 1).val; omega

include hA hE in
/-- The second frontier. -/
theorem array0_4 : ((dat0 V c).arrAt 4 cfg0.N : S10240x10240.Idx → BitVec 8) = fun y => bit8 (Hop2 E (y 0).val (y 1).val) := by
  refine (dat0 V c).arrAt_eq_of_covers 4 _ covers0_4 fun t hf y => ?_
  have ht : t.val < 250 := Nat.lt_of_lt_of_eq t.isLt N_0
  obtain ⟨e0, e1, e2⟩ := place0 t
  obtain ⟨-, -, -, -, e, -⟩ := idx0 t
  rw [flush0_4] at hf
  blk_simp [e]
  rw [after0_4]
  unfold outs0_4
  rw [e0, e1]
  obtain ⟨p, q, rfl⟩ := exists_ix2 (n := 1024) (m := 2048) y
  refine (second_tile (by omega) (by omega) hE (tile0_2 V c hA t) (counted0 V c hA t.val ht hf) p q).trans ?_
  rw [mul_comm 1024, mul_comm 2048]
  rfl

include hA hX in
/-- Each node's sum over its first frontier, -/
theorem array0_5 : ((dat0 V c).arrAt 5 cfg0.N : S10240x128.Idx → EReal) = fun y => hsum (Hop1 E) X (y 0).val (y 1).val := by
  refine (dat0 V c).arrAt_eq_of_covers 5 _ covers0_5 fun t hf y => ?_
  have ht : t.val < 250 := Nat.lt_of_lt_of_eq t.isLt N_0
  obtain ⟨-, -, -, -, -, e, -⟩ := idx0 t
  rw [flush0_5] at hf
  blk_simp [e]
  rw [after0_5]
  refine (outs0_5_last V c hA hX t.val ht hf y).trans ?_
  rw [mul_comm 1024]

include hA in
/-- and its count, in every lane; -/
theorem array0_6 : ((dat0 V c).arrAt 6 cfg0.N : S10240x128.Idx → EReal) = fun y => hcnt (Hop1 E) (y 0).val := by
  refine (dat0 V c).arrAt_eq_of_covers 6 _ covers0_6 fun t hf y => ?_
  have ht : t.val < 250 := Nat.lt_of_lt_of_eq t.isLt N_0
  obtain ⟨-, -, -, -, -, -, e, -⟩ := idx0 t
  rw [flush0_6] at hf
  blk_simp [e]
  rw [after0_6]
  refine (outs0_6_last V c hA t.val ht hf y).trans ?_
  rw [mul_comm 1024]

include hA hX hE in
/-- its sum over its second frontier, -/
theorem array0_7 : ((dat0 V c).arrAt 7 cfg0.N : S10240x128.Idx → EReal) = fun y => hsum (Hop2 E) X (y 0).val (y 1).val := by
  refine (dat0 V c).arrAt_eq_of_covers 7 _ covers0_7 fun t hf y => ?_
  have ht : t.val < 250 := Nat.lt_of_lt_of_eq t.isLt N_0
  obtain ⟨-, -, -, -, -, -, -, e, -⟩ := idx0 t
  rw [flush0_7] at hf
  blk_simp [e]
  rw [after0_7]
  refine (outs0_7_last V c hA hX hE t.val ht hf y).trans ?_
  rw [mul_comm 1024]

include hA hE in
/-- and its count. -/
theorem array0_8 : ((dat0 V c).arrAt 8 cfg0.N : S10240x128.Idx → EReal) = fun y => hcnt (Hop2 E) (y 0).val := by
  refine (dat0 V c).arrAt_eq_of_covers 8 _ covers0_8 fun t hf y => ?_
  have ht : t.val < 250 := Nat.lt_of_lt_of_eq t.isLt N_0
  obtain ⟨-, -, -, -, -, -, -, -, e⟩ := idx0 t
  rw [flush0_8] at hf
  blk_simp [e]
  rw [after0_8]
  refine (outs0_8_last V c hA hE t.val ht hf y).trans ?_
  rw [mul_comm 1024]

end Cert.KernelIdeal.Hop

end
-- ==== Proof.Value.Second.lean ====
/- What the third hop's kernel writes: at arrays holding the graph's adjacency, its second frontier and the padded
   features, each node's sum and tally over its third frontier. -/
module

public import proofs.«01_k».proof.Proof.Value.First
public import proofs.«01_k».proof.Proof.Second.Region

@[expose] public section

set_option maxRecDepth 16384

noncomputable section

namespace Cert.KernelIdeal.Hop

open Cert.KernelIdeal.Gen Cert.Hops
open Idealize.ShloMosaic Idealize.ShloMosaic.TcCoe
open Finset (range)

/-- The windows' block indices at a point. -/
theorem idx1 : ∀ t : Fin cfg1.N, win1_0.index t = ![t.val / 25, t.val % 5] ∧ win1_1.index t = ![t.val % 5, t.val / 5 % 5]
    ∧ win1_2.index t = ![t.val / 25, t.val / 5 % 5] ∧ win1_3.index t = ![t.val / 25, t.val / 5 % 5] ∧ win1_4.index t = ![t.val / 5 % 5, 0]
    ∧ win1_5.index t = ![t.val / 25, 0] ∧ win1_6.index t = ![t.val / 25, 0] := by
  decide +kernel

variable (V : (c : Dev nD) → (b : Ref sig .tc) → Buf (Elt Ideal) ((c : Thread nD τ).loc b)) (c : Dev nD)
variable {E : ℕ → ℕ → Prop} {X : ℕ → ℕ → EReal}
  (hA : ∀ i j : Fin 10240, (V c main_v19 : S10240x10240.Idx → BitVec 8) (ix2 i j) = bit8 (E i.val j.val))
  (hF : ∀ i j : Fin 10240, (V c main_v21_0 : S10240x10240.Idx → BitVec 8) (ix2 i j) = bit8 (Hop2 E i.val j.val))
  (hX : ∀ (i : Fin 10240) (d : Fin 128), (V c main_v20 : S10240x128.Idx → EReal) (ix2 i d) = X i.val d.val)

/-! ## The input blocks -/

include hF in
/-- The second frontier's tile at a row block and a contraction step; -/
theorem tile1_0 (t : Fin cfg1.N) : Tile (iblk1 V c 0 t) (Hop2 E) (1024 * (t.val / 25)) (2048 * (t.val % 5)) := by
  intro p q
  have ht : t.val < 250 := Nat.lt_of_lt_of_eq t.isLt N_1
  obtain ⟨e, -⟩ := idx1 t
  refine Eq.trans ?_ (hF ⟨1024 * (t.val / 25) + p.val, by omega⟩ ⟨2048 * (t.val % 5) + q.val, by omega⟩)
  blk_ext [iblk1, e]

include hA in
/-- the adjacency's at a contraction step and a column block; -/
theorem tile1_1 (t : Fin cfg1.N) : Tile (iblk1 V c 1 t) E (2048 * (t.val % 5)) (2048 * (t.val / 5 % 5)) := by
  intro p q
  have ht : t.val < 250 := Nat.lt_of_lt_of_eq t.isLt N_1
  obtain ⟨-, e, -⟩ := idx1 t
  refine Eq.trans ?_ (hA ⟨2048 * (t.val % 5) + p.val, by omega⟩ ⟨2048 * (t.val / 5 % 5) + q.val, by omega⟩)
  blk_ext [iblk1, e]

include hA in
/-- the adjacency's at a row and a column block; -/
theorem tile1_2 (t : Fin cfg1.N) : Tile (iblk1 V c 2 t) E (1024 * (t.val / 25)) (2048 * (t.val / 5 % 5)) := by
  intro p q
  have ht : t.val < 250 := Nat.lt_of_lt_of_eq t.isLt N_1
  obtain ⟨-, -, e, -⟩ := idx1 t
  refine Eq.trans ?_ (hA ⟨1024 * (t.val / 25) + p.val, by omega⟩ ⟨2048 * (t.val / 5 % 5) + q.val, by omega⟩)
  blk_ext [iblk1, e]

include hF in
/-- the second frontier's there; -/
theorem tile1_3 (t : Fin cfg1.N) : Tile (iblk1 V c 3 t) (Hop2 E) (1024 * (t.val / 25)) (2048 * (t.val / 5 % 5)) := by
  intro p q
  have ht : t.val < 250 := Nat.lt_of_lt_of_eq t.isLt N_1
  obtain ⟨-, -, -, e, -⟩ := idx1 t
  refine Eq.trans ?_ (hF ⟨1024 * (t.val / 25) + p.val, by omega⟩ ⟨2048 * (t.val / 5 % 5) + q.val, by omega⟩)
  blk_ext [iblk1, e]

include hX in
/-- the features' at a column block. -/
theorem feats1 (t : Fin cfg1.N) (q : Fin 2048) (d : Fin 128) :
    (iblk1 V c 4 t : S2048x128.Idx → EReal) (ix2 q d) = X (2048 * (t.val / 5 % 5) + q.val) d.val := by
  have ht : t.val < 250 := Nat.lt_of_lt_of_eq t.isLt N_1
  obtain ⟨-, -, -, -, e, -⟩ := idx1 t
  refine Eq.trans ?_ (hX ⟨2048 * (t.val / 5 % 5) + q.val, by omega⟩ d)
  blk_ext [iblk1, e]

/-! ## The accumulator -/

/-- Every number below the grid's size is the number of its point. -/
theorem point1 {t : ℕ} (ht : t < 250) : (pt1 t).val = t := Nat.mod_eq_of_lt ht

/-- The grid's coordinates at a point, from its number. -/
theorem place1 (t : Fin cfg1.N) : (grid1.coords t 0).val = t.val / 25 ∧ (grid1.coords t 1).val = t.val / 5 % 5
    ∧ (grid1.coords t 2).val = t.val % 5 := by
  have ht : t.val < 250 := Nat.lt_of_lt_of_eq t.isLt N_1
  obtain ⟨e0, e1, e2⟩ := coords1 t
  omega

include hA hF in
/-- What a point makes of the accumulator: it counts, of its 2048 middle nodes, those that join two nodes. -/
theorem acc1_apply (t : Fin cfg1.N) (a : Vec Ideal S1024x2048 .i32) (y : S1024x2048.Idx) :
    acc1 (grid1.coords t) (iblk1 V c 0 t) (iblk1 V c 1 t) a y
      = (if t.val % 5 = 0 then 0#32 else a y) + BitVec.ofNat 32 (found (Hop2 E) E t.val y) := by
  have hz : ∀ y, (if resets1 (grid1.coords t) then k1_pay1 else a) y = if t.val % 5 = 0 then 0#32 else a y := by
    intro y
    simp only [resets1_iff]
    split <;> rfl
  obtain ⟨p, q, rfl⟩ := exists_ix2 y
  unfold acc1
  refine (step1_apply (tile1_0 V c hF t) (tile1_1 V c hA t) _ p q).trans ?_
  rw [hz]
  rfl

include hA hF in
/-- The accumulator after a point, of the row and column blocks the point is in. -/
theorem counts1 (t : ℕ) (ht : t < 250) :
    Counts (accs1 V c t) (Hop2 E) E (1024 * (t / 25)) (2048 * (t / 5 % 5)) (2048 * (t % 5 + 1)) := by
  intro p q
  unfold accs1
  rw [trail_restart _ _ (found (Hop2 E) E)
    (fun t ht h d y => by rw [acc1_apply V c hA hF, point1 ht, if_pos h, BitVec.zero_add])
    (fun t ht h d y => by rw [acc1_apply V c hA hF, point1 ht, if_neg h]) t ht]
  unfold tally
  rw [← sum_tiles]
  refine congrArg _ (Finset.sum_congr rfl fun s hs => ?_)
  rw [Finset.mem_range] at hs
  unfold found
  rw [show (t - t % 5 + s) / 25 = t / 25 by omega, show (t - t % 5 + s) % 5 = s by omega,
    show (t - t % 5 + s) / 5 % 5 = t / 5 % 5 by omega]
  rfl

include hA hF in
/-- At the last contraction step every middle node has been counted. -/
theorem counted1 (t : Fin cfg1.N) (hl : t.val % 5 = 4) :
    Counts (accs1 V c t.val) (Hop2 E) E (1024 * (grid1.coords t 0).val) (2048 * (grid1.coords t 1).val) 10240 := by
  obtain ⟨e0, e1, e2⟩ := place1 t
  have h := counts1 V c hA hF t.val (Nat.lt_of_lt_of_eq t.isLt N_1)
  rw [e0, e1]
  rwa [hl] at h

/-! ## The outputs' buffers -/

variable (hE : Small E)

include hA hF hX hE in
/-- The sums' buffer: at a last contraction step it takes in the features gathered in the column block. -/
theorem sum1_apply (t : Fin cfg1.N) (d : Vec Ideal S1024x128 .f32) (y : S1024x128.Idx) :
    sum1 (grid1.coords t) (iblk1 V c 2 t) (iblk1 V c 3 t) (iblk1 V c 4 t) (accs1 V c t.val) d y
      = if t.val % 5 = 4 then if t.val / 5 % 5 = 0 then gathered (Hop3 E) X t.val y else d y + gathered (Hop3 E) X t.val y else d y := by
  obtain ⟨e0, e1, e2⟩ := place1 t
  have hs : t.val % 5 = 4 → ∀ y, k1_pay4 (F := Ideal) (grid1.coords t) (accs1 V c t.val) (iblk1 V c 2 t) (iblk1 V c 3 t) (iblk1 V c 4 t) y
      = gathered (Hop3 E) X t.val y := fun hl y => by
    obtain ⟨p, q, rfl⟩ := exists_ix2 y
    refine (third_sum hE (by rw [e0, e1]; exact tile1_2 V c hA t) (by rw [e0, e1]; exact tile1_3 V c hF t) (counted1 V c hA hF t hl) _ p q).trans ?_
    rw [e0, e1]
    exact Finset.sum_congr rfl fun q _ => by rw [feats1 V c hX t]; rfl
  unfold sum1 k1_pay7
  simp only [last1_iff, left1_iff, shapeCast_self]
  split
  · next hl =>
    split
    · exact hs hl y
    · exact congrArg (d y + ·) (hs hl y)
  · rfl

include hA hF hE in
/-- The counts' buffer: it takes in their number. -/
theorem cnt1_apply (t : Fin cfg1.N) (d : Vec Ideal S1024x128 .f32) (y : S1024x128.Idx) :
    cnt1 (grid1.coords t) (iblk1 V c 2 t) (iblk1 V c 3 t) (accs1 V c t.val) d y
      = if t.val % 5 = 4 then if t.val / 5 % 5 = 0 then counted (Hop3 E) t.val y else d y + counted (Hop3 E) t.val y else d y := by
  obtain ⟨e0, e1, e2⟩ := place1 t
  have hs : t.val % 5 = 4 → ∀ p, k1_pay5 (F := Ideal) (grid1.coords t) (accs1 V c t.val) (iblk1 V c 2 t) (iblk1 V c 3 t) (ix2 p 0) = _ := fun hl p =>
    third_count hE (by rw [e0, e1]; exact tile1_2 V c hA t) (by rw [e0, e1]; exact tile1_3 V c hF t) (counted1 V c hA hF t hl) p 0
  rw [e0, e1] at hs
  unfold cnt1 k1_pay6 k1_pay8
  simp only [last1_iff, left1_iff, shapeCast_self]
  split
  · next hl =>
    split
    · pointwise
      exact hs hl (y 0)
    · pointwise
      exact congrArg (d y + ·) (hs hl (y 0))
  · rfl

/-! ## The outputs after a row block's last point -/

include hA hF hX hE in
/-- A row block's sums over the third frontier, -/
theorem outs1_5_last (t : ℕ) (ht : t < 250) (hl : t % 25 = 24) (y : S1024x128.Idx) :
    outs1_5 V c t y = hsum (Hop3 E) X (1024 * (t / 25) + (y 0).val) (y 1).val := by
  have h := fun t (ht : t < 250) => sum1_apply V c hA hF hX hE (pt1 t)
  unfold outs1_5
  rw [trail_rows _ _ (gathered (Hop3 E) X)
    (fun t ht h' d => funext fun y => by have := h t ht d y; rw [point1 ht, if_neg h'] at this; exact this)
    (fun t ht h' h'' d y => by have := h t ht d y; rw [point1 ht, if_pos h', if_pos h''] at this; exact this)
    (fun t ht h' h'' d y => by have := h t ht d y; rw [point1 ht, if_pos h', if_neg h''] at this; exact this) t ht y (by omega), gathered_all _ _ _ hl]

include hA hF hE in
/-- and its counts. -/
theorem outs1_6_last (t : ℕ) (ht : t < 250) (hl : t % 25 = 24) (y : S1024x128.Idx) :
    outs1_6 V c t y = hcnt (Hop3 E) (1024 * (t / 25) + (y 0).val) := by
  have h := fun t (ht : t < 250) => cnt1_apply V c hA hF hE (pt1 t)
  unfold outs1_6
  rw [trail_rows _ _ (counted (Hop3 E))
    (fun t ht h' d => funext fun y => by have := h t ht d y; rw [point1 ht, if_neg h'] at this; exact this)
    (fun t ht h' h'' d y => by have := h t ht d y; rw [point1 ht, if_pos h', if_pos h''] at this; exact this)
    (fun t ht h' h'' d y => by have := h t ht d y; rw [point1 ht, if_pos h', if_neg h''] at this; exact this) t ht y (by omega), counted_all _ _ hl]

/-! ## The arrays the region leaves -/

/-- The row blocks of the third frontier's sums cover them. -/
theorem covers1_5 : (cfg1.win 5).Covers :=
  (cfg1.win 5).covers_of_index_surj rfl (by decide) fun β => by
    have h0 : (β 0).val < 10 := (β 0).isLt
    have h1 : (β 1).val < 1 := (β 1).isLt
    have hn : 25 * (β 0).val < cfg1.N := Nat.lt_of_lt_of_eq (by omega : 25 * (β 0).val < 250) N_1.symm
    refine ⟨⟨25 * (β 0).val, hn⟩, fun a => ?_⟩
    have e := (idx1 ⟨25 * (β 0).val, hn⟩).2.2.2.2.2.1
    refine (congrFun e a).trans ?_
    match a with
    | ⟨0, _⟩ => show (25 * (β 0).val) / 25 = (β 0).val; omega
    | ⟨1, _⟩ => show 0 = (β 1).val; omega

/-- The row blocks of its counts cover them. -/
theorem covers1_6 : (cfg1.win 6).Covers :=
  (cfg1.win 6).covers_of_index_surj rfl (by decide) fun β => by
    have h0 : (β 0).val < 10 := (β 0).isLt
    have h1 : (β 1).val < 1 := (β 1).isLt
    have hn : 25 * (β 0).val < cfg1.N := Nat.lt_of_lt_of_eq (by omega : 25 * (β 0).val < 250) N_1.symm
    refine ⟨⟨25 * (β 0).val, hn⟩, fun a => ?_⟩
    have e := (idx1 ⟨25 * (β 0).val, hn⟩).2.2.2.2.2.2
    refine (congrFun e a).trans ?_
    match a with
    | ⟨0, _⟩ => show (25 * (β 0).val) / 25 = (β 0).val; omega
    | ⟨1, _⟩ => show 0 = (β 1).val; omega

include hA hF hX hE in
/-- Each node's sum over its third frontier, -/
theorem array1_5 : ((dat1 V c).arrAt 5 cfg1.N : S10240x128.Idx → EReal) = fun y => hsum (Hop3 E) X (y 0).val (y 1).val := by
  refine (dat1 V c).arrAt_eq_of_covers 5 _ covers1_5 fun t hf y => ?_
  have ht : t.val < 250 := Nat.lt_of_lt_of_eq t.isLt N_1
  obtain ⟨-, -, -, -, -, e, -⟩ := idx1 t
  rw [flush1_5] at hf
  blk_simp [e]
  rw [after1_5]
  refine (outs1_5_last V c hA hF hX hE t.val ht hf y).trans ?_
  rw [mul_comm 1024]

include hA hF hE in
/-- and its count. -/
theorem array1_6 : ((dat1 V c).arrAt 6 cfg1.N : S10240x128.Idx → EReal) = fun y => hcnt (Hop3 E) (y 0).val := by
  refine (dat1 V c).arrAt_eq_of_covers 6 _ covers1_6 fun t hf y => ?_
  have ht : t.val < 250 := Nat.lt_of_lt_of_eq t.isLt N_1
  obtain ⟨-, -, -, -, -, -, e⟩ := idx1 t
  rw [flush1_6] at hf
  blk_simp [e]
  rw [after1_6]
  refine (outs1_6_last V c hA hF hE t.val ht hf y).trans ?_
  rw [mul_comm 1024]

end Cert.KernelIdeal.Hop

end
-- ==== Proof.Value.Answer.lean ====
/- What both programs compute for a node, in plain terms: the mean of the features over each of its three frontiers,
   four gated linear maps mixed by the attention weights, the linear classifier, and the scores normalised. -/
module

public import proofs.«01_k».proof.Proof.Value.Graph

@[expose] public section

noncomputable section

namespace Cert.Hops

open Idealize.ShloMosaic

/-- The features as a table without bounds: zero where there is no node. -/
def feat (x : (⟨2, ![10000, 128]⟩ : Shape).Idx → EReal) (i d : ℕ) : EReal :=
  if h : i < 10000 ∧ d < 128 then x (ix2 ⟨i, h.1⟩ ⟨d, h.2⟩) else 0

/-- At a node it is the feature given. -/
theorem feat_apply (x : (⟨2, ![10000, 128]⟩ : Shape).Idx → EReal) (i : Fin 10000) (d : Fin 128) :
    feat x i.val d.val = x (ix2 i d) := by
  unfold feat
  rw [dif_pos (show i.val < 10000 ∧ d.val < 128 from ⟨i.isLt, d.isLt⟩)]

/-- A mean from its sum and its count; zero over nothing. -/
def mean (s n : EReal) : EReal := if 0 < n then Ideal.div s (max n 1) else 0

/-- The logistic function of the product of two vectors. -/
def gate (u w : Fin 128 → EReal) : EReal := Ideal.div 1 (1 + Ideal.exp (-∑ d, u d * w d))

/-- The mean feature `d` over the nodes related to node `i`. -/
def hmean (R : ℕ → ℕ → Prop) (X : ℕ → ℕ → EReal) (i : ℕ) (d : Fin 128) : EReal := mean (hsum R X i d.val) (hcnt R i)

/-- The weights of the model: of the four maps, of their attention, and of the classifier with its bias. -/
structure Weights where
  w0 : Fin 64 → Fin 128 → EReal
  w1 : Fin 64 → Fin 128 → EReal
  w2 : Fin 64 → Fin 128 → EReal
  w3 : Fin 64 → Fin 128 → EReal
  a : Fin 4 → EReal
  wf : Fin 16 → Fin 64 → EReal
  b : Fin 16 → EReal

/-- Hidden unit `h` of a node: its own features' gate and its three frontiers', mixed. -/
def mixed (w : Weights) (x m1 m2 m3 : Fin 128 → EReal) (h : Fin 64) : EReal :=
  gate x (w.w0 h) * w.a 0 + gate m1 (w.w1 h) * w.a 1 + gate m2 (w.w2 h) * w.a 2 + gate m3 (w.w3 h) * w.a 3

/-- Class `q`'s score of a node. -/
def classes (w : Weights) (x m1 m2 m3 : Fin 128 → EReal) (q : Fin 16) : EReal :=
  ∑ h, mixed w x m1 m2 m3 h * w.wf q h + w.b q

/-- Node `i`'s score of class `q`, in the graph `E` with features `X`. -/
def score (w : Weights) (E : ℕ → ℕ → Prop) (X : ℕ → ℕ → EReal) (i : ℕ) : Fin 16 → EReal :=
  classes w (fun d => X i d.val) (hmean (Hop1 E) X i) (hmean (Hop2 E) X i) (hmean (Hop3 E) X i)

/-- The largest of a node's scores. -/
def top (f : Fin 16 → EReal) : EReal := Finset.univ.fold max (Ideal.ofBits .f32 0xFF800000#32) f

/-- A node's scores as logarithms of probabilities. -/
def answer (f : Fin 16 → EReal) (q : Fin 16) : EReal := f q - top f - Ideal.log (∑ x, Ideal.exp (f x - top f))

/-- Taking the larger of the least value and the largest score changes nothing. -/
theorem max_top (f : Fin 16 → EReal) : max (Ideal.ofBits .f32 0xFF800000#32) (top f) = top f :=
  max_eq_right ((Finset.le_fold_max _).2 (Or.inl le_rfl))

end Cert.Hops

end
-- ==== Proof.Value.Last.lean ====
/- What the last kernel writes: at arrays holding the features, the three frontiers' sums and counts and the weights,
   each node's answer. -/
module

public import proofs.«01_k».proof.Proof.Value.Answer
public import proofs.«01_k».proof.Proof.Mlp
public import Idealize.ShloMosaic.Lib.Pipeline.ValueKit
public import Idealize.ShloMosaic.Lib.Pipeline.Covers

@[expose] public section

set_option maxRecDepth 16384

noncomputable section

namespace Cert.KernelIdeal.Hop

open Cert.KernelIdeal.Gen Cert.Hops
open Idealize.ShloMosaic Idealize.ShloMosaic.TcCoe

/-! ## The body -/

section Body
variable {x0 s1 n1 s2 n2 s3 n3 : Vec Ideal S1024x128 .f32} {u0 u1 u2 u3 : Vec Ideal S128x64 .f32} {uf : Vec Ideal S64x16 .f32}
  {ub : Vec Ideal S1x16 .f32} {ua : Vec Ideal S1x4 .f32}

/-- A row's score of a class, from the row's features, sums and counts. -/
theorem scores2_apply {w : Weights} (h0 : ∀ h d, u0 (ix2 d h) = w.w0 h d) (h1 : ∀ h d, u1 (ix2 d h) = w.w1 h d)
    (h2 : ∀ h d, u2 (ix2 d h) = w.w2 h d) (h3 : ∀ h d, u3 (ix2 d h) = w.w3 h d) (hf : ∀ q h, uf (ix2 h q) = w.wf q h)
    (hb : ∀ q, ub (ix2 0 q) = w.b q) (ha : ∀ k, ua (ix2 0 k) = w.a k) (p : Fin 1024) (q : Fin 16) :
    scores2 x0 s1 n1 s2 n2 s3 n3 u0 u1 u2 u3 uf ub ua (ix2 p q)
      = classes w (fun d => x0 (ix2 p d)) (fun d => mean (s1 (ix2 p d)) (n1 (ix2 p d))) (fun d => mean (s2 (ix2 p d)) (n2 (ix2 p d)))
          (fun d => mean (s3 (ix2 p d)) (n3 (ix2 p d))) q := by
  unfold scores2 k2_pay6 k2_pay2 k2_pay3 k2_pay4 k2_pay5
  pointwise
  simp only [h0, h1, h2, h3, hf, hb, ha]
  rfl

/-- A row's answer, from its scores. -/
theorem out2_apply (p : Fin 1024) (q : Fin 16) :
    out2 x0 s1 n1 s2 n2 s3 n3 u0 u1 u2 u3 uf ub ua (ix2 p q)
      = answer (fun q => scores2 x0 s1 n1 s2 n2 s3 n3 u0 u1 u2 u3 uf ub ua (ix2 p q)) q := by
  unfold out2 k2_pay7
  rw [show k2_pay6 (k2_pay2 x0) (k2_pay3 s1 n1) (k2_pay4 s2 n2) (k2_pay5 s3 n3) ua u0 u1 u2 u3 uf ub
    = scores2 x0 s1 n1 s2 n2 s3 n3 u0 u1 u2 u3 uf ub ua from rfl]
  generalize scores2 x0 s1 n1 s2 n2 s3 n3 u0 u1 u2 u3 uf ub ua = f
  unfold k2_pay1
  pointwise
  rfl

end Body

/-! ## The blocks -/

/-- The windows' block indices at a point: the rows' windows follow the point, the weights' stay. -/
theorem idx2 : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0]
    ∧ win2_7.index t = ![0, 0] ∧ win2_8.index t = ![0, 0] ∧ win2_9.index t = ![0, 0] ∧ win2_10.index t = ![0, 0] ∧ win2_11.index t = ![0, 0] ∧ win2_12.index t = ![0, 0] ∧ win2_13.index t = ![0, 0]
    ∧ win2_14.index t = ![t.val, 0] := by
  decide +kernel

variable (V : (c : Dev nD) → (b : Ref sig .tc) → Buf (Elt Ideal) ((c : Thread nD τ).loc b)) (c : Dev nD)

/-- Window 0's rows. -/
theorem rows2_0 (t : Fin cfg2.N) (p : Fin 1024) (d : Fin 128) : (iblk2 V c 0 t : S1024x128.Idx → EReal) (ix2 p d)
    = (V c main_v20 : S10240x128.Idx → EReal) (ix2 ⟨1024 * t.val + p.val, by have := Nat.lt_of_lt_of_eq t.isLt N_2; omega⟩ d) := by
  obtain ⟨e, -⟩ := idx2 t
  blk_ext [iblk2, e]

/-- Window 1's rows. -/
theorem rows2_1 (t : Fin cfg2.N) (p : Fin 1024) (d : Fin 128) : (iblk2 V c 1 t : S1024x128.Idx → EReal) (ix2 p d)
    = (V c main_v21_1 : S10240x128.Idx → EReal) (ix2 ⟨1024 * t.val + p.val, by have := Nat.lt_of_lt_of_eq t.isLt N_2; omega⟩ d) := by
  obtain ⟨-, e, -⟩ := idx2 t
  blk_ext [iblk2, e]

/-- Window 2's rows. -/
theorem rows2_2 (t : Fin cfg2.N) (p : Fin 1024) (d : Fin 128) : (iblk2 V c 2 t : S1024x128.Idx → EReal) (ix2 p d)
    = (V c main_v21_2 : S10240x128.Idx → EReal) (ix2 ⟨1024 * t.val + p.val, by have := Nat.lt_of_lt_of_eq t.isLt N_2; omega⟩ d) := by
  obtain ⟨-, -, e, -⟩ := idx2 t
  blk_ext [iblk2, e]

/-- Window 3's rows. -/
theorem rows2_3 (t : Fin cfg2.N) (p : Fin 1024) (d : Fin 128) : (iblk2 V c 3 t : S1024x128.Idx → EReal) (ix2 p d)
    = (V c main_v21_3 : S10240x128.Idx → EReal) (ix2 ⟨1024 * t.val + p.val, by have := Nat.lt_of_lt_of_eq t.isLt N_2; omega⟩ d) := by
  obtain ⟨-, -, -, e, -⟩ := idx2 t
  blk_ext [iblk2, e]

/-- Window 4's rows. -/
theorem rows2_4 (t : Fin cfg2.N) (p : Fin 1024) (d : Fin 128) : (iblk2 V c 4 t : S1024x128.Idx → EReal) (ix2 p d)
    = (V c main_v21_4 : S10240x128.Idx → EReal) (ix2 ⟨1024 * t.val + p.val, by have := Nat.lt_of_lt_of_eq t.isLt N_2; omega⟩ d) := by
  obtain ⟨-, -, -, -, e, -⟩ := idx2 t
  blk_ext [iblk2, e]

/-- Window 5's rows. -/
theorem rows2_5 (t : Fin cfg2.N) (p : Fin 1024) (d : Fin 128) : (iblk2 V c 5 t : S1024x128.Idx → EReal) (ix2 p d)
    = (V c main_v22_0 : S10240x128.Idx → EReal) (ix2 ⟨1024 * t.val + p.val, by have := Nat.lt_of_lt_of_eq t.isLt N_2; omega⟩ d) := by
  obtain ⟨-, -, -, -, -, e, -⟩ := idx2 t
  blk_ext [iblk2, e]

/-- Window 6's rows. -/
theorem rows2_6 (t : Fin cfg2.N) (p : Fin 1024) (d : Fin 128) : (iblk2 V c 6 t : S1024x128.Idx → EReal) (ix2 p d)
    = (V c main_v22_1 : S10240x128.Idx → EReal) (ix2 ⟨1024 * t.val + p.val, by have := Nat.lt_of_lt_of_eq t.isLt N_2; omega⟩ d) := by
  obtain ⟨-, -, -, -, -, -, e, -⟩ := idx2 t
  blk_ext [iblk2, e]

/-- Window 7's block is its whole array. -/
theorem whole2_7 (t : Fin cfg2.N) : (iblk2 V c 7 t : S128x64.Idx → EReal) = (V c main_v32 : S128x64.Idx → EReal) := by
  obtain ⟨-, -, -, -, -, -, -, e, -⟩ := idx2 t
  funext y
  blk_ext [iblk2, e]

/-- Window 8's block is its whole array. -/
theorem whole2_8 (t : Fin cfg2.N) : (iblk2 V c 8 t : S128x64.Idx → EReal) = (V c main_v33 : S128x64.Idx → EReal) := by
  obtain ⟨-, -, -, -, -, -, -, -, e, -⟩ := idx2 t
  funext y
  blk_ext [iblk2, e]

/-- Window 9's block is its whole array. -/
theorem whole2_9 (t : Fin cfg2.N) : (iblk2 V c 9 t : S128x64.Idx → EReal) = (V c main_v34 : S128x64.Idx → EReal) := by
  obtain ⟨-, -, -, -, -, -, -, -, -, e, -⟩ := idx2 t
  funext y
  blk_ext [iblk2, e]

/-- Window 10's block is its whole array. -/
theorem whole2_10 (t : Fin cfg2.N) : (iblk2 V c 10 t : S128x64.Idx → EReal) = (V c main_v35 : S128x64.Idx → EReal) := by
  obtain ⟨-, -, -, -, -, -, -, -, -, -, e, -⟩ := idx2 t
  funext y
  blk_ext [iblk2, e]

/-- Window 11's block is its whole array. -/
theorem whole2_11 (t : Fin cfg2.N) : (iblk2 V c 11 t : S64x16.Idx → EReal) = (V c main_v36 : S64x16.Idx → EReal) := by
  obtain ⟨-, -, -, -, -, -, -, -, -, -, -, e, -⟩ := idx2 t
  funext y
  blk_ext [iblk2, e]

/-- Window 12's block is its whole array. -/
theorem whole2_12 (t : Fin cfg2.N) : (iblk2 V c 12 t : S1x16.Idx → EReal) = (V c main_v37 : S1x16.Idx → EReal) := by
  obtain ⟨-, -, -, -, -, -, -, -, -, -, -, -, e, -⟩ := idx2 t
  funext y
  blk_ext [iblk2, e]

/-- Window 13's block is its whole array. -/
theorem whole2_13 (t : Fin cfg2.N) : (iblk2 V c 13 t : S1x4.Idx → EReal) = (V c main_v31 : S1x4.Idx → EReal) := by
  obtain ⟨-, -, -, -, -, -, -, -, -, -, -, -, -, e, -⟩ := idx2 t
  funext y
  blk_ext [iblk2, e]

/-! ## The array -/

/-- The output's blocks cover it. -/
theorem covers2_14 : (cfg2.win 14).Covers :=
  (cfg2.win 14).covers_of_index_surj rfl (by decide) fun β => by
    have h0 : (β 0).val < 10 := (β 0).isLt
    have h1 : (β 1).val < 1 := (β 1).isLt
    have hn : (β 0).val < cfg2.N := Nat.lt_of_lt_of_eq h0 N_2.symm
    refine ⟨⟨(β 0).val, hn⟩, fun a => ?_⟩
    obtain ⟨-, -, -, -, -, -, -, -, -, -, -, -, -, -, e⟩ := idx2 ⟨(β 0).val, hn⟩
    refine (congrFun e a).trans ?_
    match a with
    | ⟨0, _⟩ => rfl
    | ⟨1, _⟩ => show 0 = (β 1).val; omega

variable {E : ℕ → ℕ → Prop} {X : ℕ → ℕ → EReal} {w : Weights}

/-- What the last kernel's arrays hold on entry: the features, the frontiers' sums and counts, and the weights. -/
structure Ready (E : ℕ → ℕ → Prop) (X : ℕ → ℕ → EReal) (w : Weights) : Prop where
  x : ∀ (i : Fin 10240) (d : Fin 128), (V c main_v20 : S10240x128.Idx → EReal) (ix2 i d) = X i.val d.val
  s1 : (V c main_v21_1 : S10240x128.Idx → EReal) = fun y => hsum (Hop1 E) X (y 0).val (y 1).val
  n1 : (V c main_v21_2 : S10240x128.Idx → EReal) = fun y => hcnt (Hop1 E) (y 0).val
  s2 : (V c main_v21_3 : S10240x128.Idx → EReal) = fun y => hsum (Hop2 E) X (y 0).val (y 1).val
  n2 : (V c main_v21_4 : S10240x128.Idx → EReal) = fun y => hcnt (Hop2 E) (y 0).val
  s3 : (V c main_v22_0 : S10240x128.Idx → EReal) = fun y => hsum (Hop3 E) X (y 0).val (y 1).val
  n3 : (V c main_v22_1 : S10240x128.Idx → EReal) = fun y => hcnt (Hop3 E) (y 0).val
  w0 : ∀ h d, (V c main_v32 : S128x64.Idx → EReal) (ix2 d h) = w.w0 h d
  w1 : ∀ h d, (V c main_v33 : S128x64.Idx → EReal) (ix2 d h) = w.w1 h d
  w2 : ∀ h d, (V c main_v34 : S128x64.Idx → EReal) (ix2 d h) = w.w2 h d
  w3 : ∀ h d, (V c main_v35 : S128x64.Idx → EReal) (ix2 d h) = w.w3 h d
  wf : ∀ q h, (V c main_v36 : S64x16.Idx → EReal) (ix2 h q) = w.wf q h
  b : ∀ q, (V c main_v37 : S1x16.Idx → EReal) (ix2 0 q) = w.b q
  a : ∀ k, (V c main_v31 : S1x4.Idx → EReal) (ix2 0 k) = w.a k

/-- A row's scores at a point. -/
theorem row2 (H : Ready V c E X w) (t : Fin cfg2.N) (p : Fin 1024) (q : Fin 16) :
    scores2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 p q)
      = score w E X (1024 * t.val + p.val) q := by
  refine (scores2_apply (w := w) (fun h d => (congrFun (whole2_7 V c t) _).trans (H.w0 h d))
    (fun h d => (congrFun (whole2_8 V c t) _).trans (H.w1 h d)) (fun h d => (congrFun (whole2_9 V c t) _).trans (H.w2 h d))
    (fun h d => (congrFun (whole2_10 V c t) _).trans (H.w3 h d)) (fun q h => (congrFun (whole2_11 V c t) _).trans (H.wf q h))
    (fun q => (congrFun (whole2_12 V c t) _).trans (H.b q)) (fun k => (congrFun (whole2_13 V c t) _).trans (H.a k)) p q).trans ?_
  have e0 := fun d => (rows2_0 V c t p d).trans (H.x _ d)
  have e1 := fun d => (rows2_1 V c t p d).trans (congrFun H.s1 _)
  have e2 := fun d => (rows2_2 V c t p d).trans (congrFun H.n1 _)
  have e3 := fun d => (rows2_3 V c t p d).trans (congrFun H.s2 _)
  have e4 := fun d => (rows2_4 V c t p d).trans (congrFun H.n2 _)
  have e5 := fun d => (rows2_5 V c t p d).trans (congrFun H.s3 _)
  have e6 := fun d => (rows2_6 V c t p d).trans (congrFun H.n3 _)
  unfold score
  congr 1
  · exact funext e0
  · exact funext fun d => congrArg₂ mean (e1 d) (e2 d)
  · exact funext fun d => congrArg₂ mean (e3 d) (e4 d)
  · exact funext fun d => congrArg₂ mean (e5 d) (e6 d)

/-- The last kernel's output holds each node's answer. -/
theorem array2_14 (H : Ready V c E X w) : ((dat2 V c).arrAt 14 cfg2.N : S10240x16.Idx → EReal) =
    fun y => answer (score w E X (y 0).val) (y 1) := by
  refine (dat2 V c).arrAt_eq_of_covers 14 _ covers2_14 fun t hf y => ?_
  obtain ⟨-, -, -, -, -, -, -, -, -, -, -, -, -, -, e⟩ := idx2 t
  have hy : ∃ (p : Fin 1024) (q : Fin 16), y = ix2 p q := exists_ix2 y
  obtain ⟨p, q, rfl⟩ := hy
  blk_simp [e]
  rw [after2_14]
  refine ((out2_apply p q).trans (congrArg (fun f => answer f q) (funext (row2 V c H t p)))).trans ?_
  rw [mul_comm 1024]
  refine congrArg (answer _) (Fin.ext ?_)
  blk_simp [e]

end Cert.KernelIdeal.Hop

end
-- ==== Proof.Value.Scatter.lean ====
/- Scattering one value over the edges of a list: an entry of the matrix holds it exactly if the list has that edge. -/
module

public import proofs.«01_k».proof.Proof.Value.Graph
public import Idealize.ShloMosaic.Lib.Routing.OpsSet
public import Idealize.ShloMosaic.Lib.WordCmp

@[expose] public section

noncomputable section

namespace Cert.Hops

open Idealize.ShloMosaic

/-- The place of edge `k` in an array with one entry for each edge. -/
def at1 {K : ℕ} (k : Fin K) : (⟨1, ![K]⟩ : Shape).Idx := fun a => match a with | ⟨0, _⟩ => k
/-- Every index of a vector is of this form. -/
theorem exists_at1 {K : ℕ} (y : (⟨1, ![K]⟩ : Shape).Idx) : ∃ k : Fin K, y = at1 k :=
  ⟨y 0, funext fun a => match a with | ⟨0, _⟩ => rfl⟩

/-- An edge's update lands at the entry its two words, read signed, name. -/
theorem lands_iff {R K : ℕ} (d : ScatterDims ⟨2, ![R, R]⟩ ⟨2, ![K, 2]⟩ ⟨1, ![K]⟩) (hu : d.updateWindowDims = [])
    (hi : d.insertedWindowDims = [0, 1]) (hs : d.scatterDimsToOperandDims = [0, 1]) (hv : d.indexVectorDim = 1)
    (idx : IVec ⟨2, ![K, 2]⟩ 32) (k : Fin K) (i j : Fin R) :
    d.resultIdx? (at1 k) idx = some (ix2 i j)
      ↔ (idx (ix2 k (0 : Fin 2))).toInt = (i.val : ℤ) ∧ (idx (ix2 k (1 : Fin 2))).toInt = (j.val : ℤ) := by
  obtain ⟨uw, iw, sd, iv, wf⟩ := d
  dsimp only at hu hi hs hv
  subst hu hi hs hv
  rw [Routing.resultIdx?_eq_some]
  have e : ∀ c : Fin 2, ScatterDims.siIdx (⟨[], [0, 1], [0, 1], 1, wf⟩ : ScatterDims ⟨2, ![R, R]⟩ ⟨2, ![K, 2]⟩ ⟨1, ![K]⟩) (at1 k) c = ix2 k c := by
    intro c
    funext b
    match b with
    | ⟨0, _⟩ => rfl
    | ⟨1, _⟩ => rfl
  have h0 : (ScatterDims.start (⟨[], [0, 1], [0, 1], 1, wf⟩ : ScatterDims ⟨2, ![R, R]⟩ ⟨2, ![K, 2]⟩ ⟨1, ![K]⟩) (at1 k) idx 0 : ℤ) + (ScatterDims.window (⟨[], [0, 1], [0, 1], 1, wf⟩ : ScatterDims ⟨2, ![R, R]⟩ ⟨2, ![K, 2]⟩ ⟨1, ![K]⟩) (at1 k) 0 : ℤ) = (idx (ix2 k (0 : Fin 2))).toInt := by
    exact (add_zero _).trans (congrArg (fun z => (idx z).toInt) (e 0))
  have h1 : (ScatterDims.start (⟨[], [0, 1], [0, 1], 1, wf⟩ : ScatterDims ⟨2, ![R, R]⟩ ⟨2, ![K, 2]⟩ ⟨1, ![K]⟩) (at1 k) idx 1 : ℤ) + (ScatterDims.window (⟨[], [0, 1], [0, 1], 1, wf⟩ : ScatterDims ⟨2, ![R, R]⟩ ⟨2, ![K, 2]⟩ ⟨1, ![K]⟩) (at1 k) 1 : ℤ) = (idx (ix2 k (1 : Fin 2))).toInt := by
    exact (add_zero _).trans (congrArg (fun z => (idx z).toInt) (e 1))
  constructor
  · intro h
    exact ⟨h0.symm.trans (h 0), h1.symm.trans (h 1)⟩
  · rintro ⟨a, b⟩ q
    match q with
    | ⟨0, _⟩ => exact h0.trans a
    | ⟨1, _⟩ => exact h1.trans b

open Classical in
/-- The matrix after the scatter: the value at the edges, what was there elsewhere. -/
theorem scatter_edges {α : Type} {R : ℕ} (d : ScatterDims ⟨2, ![R, R]⟩ ⟨2, ![160000, 2]⟩ ⟨1, ![160000]⟩)
    (hu : d.updateWindowDims = []) (hi : d.insertedWindowDims = [0, 1]) (hs : d.scatterDimsToOperandDims = [0, 1])
    (hv : d.indexVectorDim = 1) {e : (⟨2, ![2, 160000]⟩ : Shape).Idx → BitVec 32} (he : InRange e)
    {x : (⟨2, ![R, R]⟩ : Shape).Idx → α} {idx : IVec ⟨2, ![160000, 2]⟩ 32} {upd : (⟨1, ![160000]⟩ : Shape).Idx → α} {v : α}
    (hidx : ∀ (k : Fin 160000) (r : Fin 2), idx (ix2 k r) = e (ix2 r k)) (hupd : ∀ k, upd k = v) (i j : Fin R) :
    Host.scatter d (fun _ b => b) x idx upd (ix2 i j) = if Edge e i.val j.val then v else x (ix2 i j) := by
  have hl : ∀ k : Fin 160000, d.resultIdx? (at1 k) idx = some (ix2 i j)
      ↔ (e (ix2 (0 : Fin 2) k)).toNat = i.val ∧ (e (ix2 (1 : Fin 2) k)).toNat = j.val := by
    intro k
    have t : ∀ r : Fin 2, (e (ix2 r k)).toInt = ((e (ix2 r k)).toNat : ℤ) := fun r =>
      BitVec.toInt_eq_toNat_of_lt (by have := he r k; omega)
    rw [lands_iff d hu hi hs hv, hidx, hidx, t, t]
    omega
  split
  · next h =>
    obtain ⟨k, h⟩ := h
    exact Routing.scatter_set_hit d x idx upd _ v (fun k _ => hupd k) (at1 k) ((hl k).2 h)
  · next h =>
    refine Routing.scatter_set_miss d x idx upd _ fun k hk => ?_
    obtain ⟨k, rfl⟩ := exists_at1 k
    exact h ⟨k, (hl k).1 hk⟩

/-- A negative word has the matrix's size added; a node's number is never negative. -/
theorem wrap_node {e : (⟨2, ![2, 160000]⟩ : Shape).Idx → BitVec 32} (he : InRange e) (r : Fin 2) (k : Fin 160000) (a : BitVec 32) :
    Scalar.select (IntOp.cmpi .slt (e (ix2 r k)) 0#32) a (e (ix2 r k)) = e (ix2 r k) :=
  Routing.wrap_of_lt _ _ (by have := he r k; omega)

end Cert.Hops

end
-- ==== Proof.Value.Inputs.lean ====
/- What the host lines before the kernels make of the arguments: the adjacency matrix, and the features with rows of
   zeros below them. -/
module

public import proofs.«01_k».proof.Proof.Value.Scatter
public import proofs.«01_k».proof.Proof.Value.Answer
public import proofs.«01_k».proof.Proof.Run
public import Idealize.ShloMosaic.Lib.StableHlo.ReadAt

@[expose] public section

set_option maxRecDepth 16384

noncomputable section

namespace Cert.KernelIdeal.Hop

open Cert.KernelIdeal.Gen hiding V0 V1 V2 V3 V4 V5 V6 V7 V1_of V2_of V3_of V4_of V5_of V6_of V7_of adm segs seg0 seg1
open Cert.Hops
open Idealize.ShloMosaic Idealize.ShloMosaic.TcCoe Idealize.ShloMosaic.StableHlo

variable (m : (ℓ : Loc nD τ sig) → Buf (Elt Ideal) ℓ) (ρ : Dev nD → PrngReg) (c : Dev nD)

/-- The list of edges the run is given. -/
abbrev edges : S2x160000.Idx → BitVec 32 := m ((c : Thread nD τ).loc main_arg1)
/-- The features it is given. -/
abbrev nodes : S10000x128.Idx → EReal := m ((c : Thread nD τ).loc main_arg0)

/-- The matrix the first region reads holds one at the edges and zero elsewhere. -/
theorem adjacency (he : InRange (edges m c)) (i j : Fin 10240) :
    (V2 m ρ c main_v19 : S10240x10240.Idx → BitVec 8) (ix2 i j) = bit8 (Edge (edges m c) i.val j.val) := by
  refine (congrFun (W2_of m ρ c main_v19 (by decide +kernel)) (ix2 i j)).trans ?_
  unfold W1
  after_reads_simp
  refine (scatter_edges _ rfl rfl rfl rfl he (v := 1#8) (fun k r => ?_) (fun k => ?_) i j).trans ?_
  · match r with
    | ⟨0, _⟩ =>
      pointwise
      after_reads_at
      exact wrap_node he 0 k _
    | ⟨1, _⟩ =>
      pointwise
      after_reads_at
      exact wrap_node he 1 k _
  · pointwise
  · rfl

/-- The features the first region reads are those given, with zeros below. -/
theorem features (i : Fin 10240) (d : Fin 128) :
    (V2 m ρ c main_v20 : S10240x128.Idx → EReal) (ix2 i d) = feat (nodes m c) i.val d.val := by
  unfold V2 W2
  after_reads_at
  unfold feat
  split
  · next h =>
    rw [dif_pos (show i.val < 10000 ∧ d.val < 128 from ⟨h, d.isLt⟩)]
  · next h =>
    rw [dif_neg fun h' => h h'.1]
    show (((0#32).toInt : ℝ) : EReal) = 0
    simp

end Cert.KernelIdeal.Hop

end
-- ==== Proof.Value.Fold.lean ====
/- The kernel's whole run, array by array: from the arguments to each node's answer. -/
module

public import proofs.«01_k».proof.Proof.Value.First
public import proofs.«01_k».proof.Proof.Value.Second
public import proofs.«01_k».proof.Proof.Value.Last
public import proofs.«01_k».proof.Proof.Value.Inputs

@[expose] public section

set_option maxRecDepth 16384

noncomputable section

namespace Cert.KernelIdeal.Hop

open Cert.KernelIdeal.Gen hiding V0 V1 V2 V3 V4 V5 V6 V7 V1_of V2_of V3_of V4_of V5_of V6_of V7_of adm segs seg0 seg1
open Cert.Hops
open Idealize.ShloMosaic Idealize.ShloMosaic.TcCoe Idealize.ShloMosaic.StableHlo

variable (m : (ℓ : Loc nD τ sig) → Buf (Elt Ideal) ℓ) (ρ : Dev nD → PrngReg) (c : Dev nD)

/-- The weights the run is given, its attention weights normalised by the host lines before the last kernel. -/
def weights : Weights where
  w0 h d := (m ((c : Thread nD τ).loc main_arg2) : S64x128.Idx → EReal) (ix2 h d)
  w1 h d := (m ((c : Thread nD τ).loc main_arg3) : S64x128.Idx → EReal) (ix2 h d)
  w2 h d := (m ((c : Thread nD τ).loc main_arg4) : S64x128.Idx → EReal) (ix2 h d)
  w3 h d := (m ((c : Thread nD τ).loc main_arg5) : S64x128.Idx → EReal) (ix2 h d)
  a k := (V5 m ρ c main_v31 : S1x4.Idx → EReal) (ix2 0 k)
  wf q h := (m ((c : Thread nD τ).loc main_arg6) : S16x64.Idx → EReal) (ix2 q h)
  b q := (m ((c : Thread nD τ).loc main_arg7) : S16.Idx → EReal) (ix1 q)

/-! ## The weights' arrays -/

/-- The last kernel reads map 0 turned over. -/
theorem turned0 (h : Fin 64) (d : Fin 128) : (V5 m ρ c main_v32 : S128x64.Idx → EReal) (ix2 d h) = (weights m ρ c).w0 h d := by
  unfold V5 W5
  after_reads_at
  exact congrFun (W4_args m ρ c main_arg2 (by decide)) _

/-- The last kernel reads map 1 turned over. -/
theorem turned1 (h : Fin 64) (d : Fin 128) : (V5 m ρ c main_v33 : S128x64.Idx → EReal) (ix2 d h) = (weights m ρ c).w1 h d := by
  unfold V5 W5
  after_reads_at
  exact congrFun (W4_args m ρ c main_arg3 (by decide)) _

/-- The last kernel reads map 2 turned over. -/
theorem turned2 (h : Fin 64) (d : Fin 128) : (V5 m ρ c main_v34 : S128x64.Idx → EReal) (ix2 d h) = (weights m ρ c).w2 h d := by
  unfold V5 W5
  after_reads_at
  exact congrFun (W4_args m ρ c main_arg4 (by decide)) _

/-- The last kernel reads map 3 turned over. -/
theorem turned3 (h : Fin 64) (d : Fin 128) : (V5 m ρ c main_v35 : S128x64.Idx → EReal) (ix2 d h) = (weights m ρ c).w3 h d := by
  unfold V5 W5
  after_reads_at
  exact congrFun (W4_args m ρ c main_arg5 (by decide)) _

/-- It reads the classifier turned over, -/
theorem turnedf (q : Fin 16) (h : Fin 64) : (V5 m ρ c main_v36 : S64x16.Idx → EReal) (ix2 h q) = (weights m ρ c).wf q h := by
  unfold V5 W5
  after_reads_at
  exact congrFun (W4_args m ρ c main_arg6 (by decide)) _

/-- and its bias as a row. -/
theorem bias (q : Fin 16) : (V5 m ρ c main_v37 : S1x16.Idx → EReal) (ix2 0 q) = (weights m ρ c).b q := by
  unfold V5 W5
  after_reads_at
  exact congrFun (W4_args m ρ c main_arg7 (by decide)) _

/-! ## The kernels' arrays -/

variable (he : InRange (edges m c))

include he in
/-- The second kernel reads the adjacency the first did, -/
theorem adjacency3 (i j : Fin 10240) :
    (V3 m ρ c main_v19 : S10240x10240.Idx → BitVec 8) (ix2 i j) = bit8 (Edge (edges m c) i.val j.val) :=
  (congrFun (W3_of m ρ c main_v19 (by decide +kernel)) _).trans (adjacency m ρ c he i j)

/-- the features, -/
theorem features3 (i : Fin 10240) (d : Fin 128) :
    (V3 m ρ c main_v20 : S10240x128.Idx → EReal) (ix2 i d) = feat (nodes m c) i.val d.val :=
  (congrFun (W3_of m ρ c main_v20 (by decide +kernel)) _).trans (features m ρ c i d)

include he in
/-- and the second frontier the first wrote. -/
theorem frontier3 (i j : Fin 10240) :
    (V3 m ρ c main_v21_0 : S10240x10240.Idx → BitVec 8) (ix2 i j) = bit8 (Hop2 (Edge (edges m c)) i.val j.val) :=
  (congrFun (W3_arr m ρ c 4) _).trans
    (congrFun (array0_4 (V2 m ρ) c (adjacency m ρ c he) fun _ _ => Edge.lt he) (ix2 i j))

/-- An array neither the second kernel nor the host lines after it write is still as the first left it. -/
theorem kept (r : Ref sig .tc) (h5 : r ∉ hostOps2_W) (h4 : ∀ w : Fin cfg1.W, Pipeline.arrRef spec1 w = r → (cfg1.win w).isOut = false) :
    V5 m ρ c r = V3 m ρ c r :=
  (W5_of m ρ c r h5).trans (W4_of m ρ c r h4)

include he in
/-- All the last kernel reads. -/
theorem ready : Ready (V5 m ρ) c (Edge (edges m c)) (feat (nodes m c)) (weights m ρ c) where
  x i d := (congrFun (kept m ρ c main_v20 (by decide +kernel) (by decide +kernel)) _).trans (features3 m ρ c i d)
  s1 := (kept m ρ c main_v21_1 (by decide +kernel) (by decide +kernel)).trans ((W3_arr m ρ c 5).trans
    (array0_5 (V2 m ρ) c (adjacency m ρ c he) (features m ρ c)))
  n1 := (kept m ρ c main_v21_2 (by decide +kernel) (by decide +kernel)).trans ((W3_arr m ρ c 6).trans
    (array0_6 (V2 m ρ) c (adjacency m ρ c he)))
  s2 := (kept m ρ c main_v21_3 (by decide +kernel) (by decide +kernel)).trans ((W3_arr m ρ c 7).trans
    (array0_7 (V2 m ρ) c (adjacency m ρ c he) (features m ρ c) fun _ _ => Edge.lt he))
  n2 := (kept m ρ c main_v21_4 (by decide +kernel) (by decide +kernel)).trans ((W3_arr m ρ c 8).trans
    (array0_8 (V2 m ρ) c (adjacency m ρ c he) fun _ _ => Edge.lt he))
  s3 := (W5_of m ρ c main_v22_0 (by decide +kernel)).trans ((W4_arr m ρ c 5).trans
    (array1_5 (V3 m ρ) c (adjacency3 m ρ c he) (frontier3 m ρ c he) (features3 m ρ c) fun _ _ => Edge.lt he))
  n3 := (W5_of m ρ c main_v22_1 (by decide +kernel)).trans ((W4_arr m ρ c 6).trans
    (array1_6 (V3 m ρ) c (adjacency3 m ρ c he) (frontier3 m ρ c he) fun _ _ => Edge.lt he))
  w0 := turned0 m ρ c
  w1 := turned1 m ρ c
  w2 := turned2 m ρ c
  w3 := turned3 m ρ c
  wf := turnedf m ρ c
  b := bias m ρ c
  a _ := rfl

include he in
/-- The result holds each node's answer. -/
theorem result (i : Fin 10000) (q : Fin 16) :
    (W7 m ρ c (Proc.devRef .tc main_v39) : S10000x16.Idx → EReal) (ix2 i q)
      = answer (score (weights m ρ c) (Edge (edges m c)) (feat (nodes m c)) i.val) q := by
  unfold W7
  after_reads_at
  exact (congrFun (W6_arr m ρ c 14) _).trans (congrFun (array2_14 (V5 m ρ) c (ready m ρ c he)) _)

end Cert.KernelIdeal.Hop

end
-- ==== Proof.Value.Reference.lean ====
/- The frontiers the reference computes, at an edge list in range: each entry the truth value the graph gives it. -/
module

public import proofs.«01_k».proof.Proof.Value.Tiles
public import proofs.«01_k».proof.Proof.Value.Scatter
public import proofs.«01_k».proof.Proof.Value.Answer
public import proofs.«01_k».proof.Proof.Gen.ReferenceIdeal.Run

@[expose] public section

set_option maxRecDepth 16384

noncomputable section

namespace Cert.ReferenceIdeal.Hop

open Cert.ReferenceIdeal Cert.ReferenceIdeal.Value Cert.Hops
open Cert.ReferenceIdeal.Gen
open Cert.KernelIdeal.Hop (not_bit1 and_bit1 or_bit1 bit1_congr eq_word)
open Idealize.ShloMosaic Idealize.ShloMosaic.TcCoe Idealize.ShloMosaic.StableHlo

variable (V0 : Valuation τ sig (Elt Ideal))

/-- The list of edges the run is given. -/
abbrev edges : S2x160000.Idx → BitVec 32 := V0 (Proc.devRef .tc main_arg1)

/-! ## The frontiers -/

variable (he : InRange (edges V0))

include he in
/-- The adjacency matrix. -/
theorem adjacency (i j : Fin 10000) :
    (res_main_v19 V0 : S10000x10000.Idx → EReal) (ix2 i j) = ind (Edge (edges V0) i.val j.val) := by
  unfold res_main_v19
  refine (scatter_edges _ rfl rfl rfl rfl he (v := (1 : EReal)) (fun k r => ?_) (fun k => ?_) i j).trans ?_
  · match r with
    | ⟨0, _⟩ =>
      pointwise [res_main_v1]
      exact wrap_node he 0 k _
    | ⟨1, _⟩ =>
      pointwise [res_main_v3]
      exact wrap_node he 1 k _
  · pointwise
  · pointwise
    rfl

/-- A truth value is positive exactly if it holds. -/
theorem pos_ind (p : Prop) : BitVec.ofBool (decide (0 < ind p)) = bit1 p := by
  unfold ind bit1; by_cases h : p <;> simp [h]
/-- A one-bit truth value as a number, -/
theorem uitofp_bit1 (p : Prop) : (FloatOps.uitofp .f32 (bit1 p) : Ideal .f32) = ind p := by
  show (((((bit1 p).toNat : ℕ) : ℝ)) : EReal) = ind p
  unfold bit1 ind; by_cases h : p <;> simp [h]
/-- and its complement. -/
theorem complement_bit1 (p : Prop) : ~~~(bit1 p) = bit1 (¬p) := by
  unfold bit1; by_cases h : p <;> simp [h]
/-- A row by a column of truth values is positive exactly if both hold somewhere. -/
theorem pos_sum {n : ℕ} (P Q : Fin n → Prop) :
    BitVec.ofBool (decide (0 < ∑ k : Fin n, ind (P k) * ind (Q k))) = bit1 (∃ k, P k ∧ Q k) := by
  unfold bit1
  by_cases h : ∃ k, P k ∧ Q k
  · rw [if_pos h, decide_eq_true ((sum_ind_pos P Q).2 h)]; rfl
  · rw [if_neg h, decide_eq_false fun h' => h ((sum_ind_pos P Q).1 h')]; rfl

/-- A node's number plus zero, against another's. -/
theorem same_node (i j : Fin 10000) :
    IntOp.cmpi .eq (IntOp.addi (BitVec.ofNat 32 i.val) 0#32) (BitVec.ofNat 32 j.val) = bit1 (i.val = j.val) := by
  rw [IntOp.addi, BitVec.add_zero, eq_word (by omega) (by omega)]

include he in
/-- The first frontier. -/
theorem first (i j : Fin 10000) :
    (res_main_v28 V0 : S10000x10000.Idx → BitVec 1) (ix2 i j) = bit1 (Hop1 (Edge (edges V0)) i.val j.val) := by
  have hf := adjacency V0 he
  revert hf
  unfold res_main_v28 res_main_v24
  generalize (res_main_v19 V0 : S10000x10000.Idx → EReal) = f
  intro hf
  pointwise
  rw [hf, same_node, pos_ind, complement_bit1, and_bit1]
  rfl

include he in
/-- The second frontier. -/
theorem second (i j : Fin 10000) :
    (res_main_v35 V0 : S10000x10000.Idx → BitVec 1) (ix2 i j) = bit1 (Hop2 (Edge (edges V0)) i.val j.val) := by
  have hf := adjacency V0 he
  have hg := first V0 he
  revert hf hg
  unfold res_main_v35 res_main_v29 res_main_v24
  generalize (res_main_v19 V0 : S10000x10000.Idx → EReal) = f
  generalize (res_main_v28 V0 : S10000x10000.Idx → BitVec 1) = g
  intro hf hg
  pointwise
  simp only [hf, hg, uitofp_bit1]
  rw [same_node, or_bit1, complement_bit1, pos_sum, and_bit1]
  refine bit1_congr ⟨fun ⟨⟨k, h1, h2⟩, h3⟩ => ⟨⟨k.val, h1, h2⟩, fun h => ?_, fun h => h3 (Or.inl h)⟩, fun ⟨⟨k, h1, h2⟩, h3, h4⟩ =>
    ⟨⟨⟨k, (h2.lt he).1⟩, h1, h2⟩, fun h => h.elim h4 fun h => h3 h.1⟩⟩
  by_cases e : i.val = j.val
  · exact h3 (Or.inl e)
  · exact h3 (Or.inr ⟨h, e⟩)

include he in
/-- The first frontier as numbers, -/
theorem first_num (i j : Fin 10000) :
    (res_main_v43 V0 : S10000x10000.Idx → EReal) (ix2 i j) = ind (Hop1 (Edge (edges V0)) i.val j.val) := by
  have hg := first V0 he
  revert hg
  unfold res_main_v43
  generalize (res_main_v28 V0 : S10000x10000.Idx → BitVec 1) = g
  intro hg
  pointwise
  rw [hg]
  exact uitofp_bit1 _
include he in
/-- the second, -/
theorem second_num (i j : Fin 10000) :
    (res_main_v44 V0 : S10000x10000.Idx → EReal) (ix2 i j) = ind (Hop2 (Edge (edges V0)) i.val j.val) := by
  have hg := second V0 he
  revert hg
  unfold res_main_v44
  generalize (res_main_v35 V0 : S10000x10000.Idx → BitVec 1) = g
  intro hg
  pointwise
  rw [hg]
  exact uitofp_bit1 _
include he in
/-- and the third. -/
theorem third_num (i j : Fin 10000) :
    (res_main_v45 V0 : S10000x10000.Idx → EReal) (ix2 i j) = ind (Hop3 (Edge (edges V0)) i.val j.val) := by
  have hf := adjacency V0 he
  have hg := first V0 he
  have hh := second V0 he
  revert hf hg hh
  unfold res_main_v45 res_main_v29 res_main_v24
  generalize (res_main_v19 V0 : S10000x10000.Idx → EReal) = f
  generalize (res_main_v28 V0 : S10000x10000.Idx → BitVec 1) = g
  generalize (res_main_v35 V0 : S10000x10000.Idx → BitVec 1) = h
  intro hf hg hh
  pointwise
  simp only [hf, hg, hh, uitofp_bit1]
  rw [same_node, or_bit1, or_bit1, complement_bit1, pos_sum, and_bit1, uitofp_bit1]
  congr 1
  refine propext ⟨fun ⟨⟨k, h1, h2⟩, h3⟩ => ⟨⟨k.val, h1, h2⟩, fun h => ?_, fun h => h3 (Or.inl (Or.inl h)), fun h => h3 (Or.inr h)⟩,
    fun ⟨⟨k, h1, h2⟩, h3, h4, h5⟩ => ⟨⟨⟨k, (h2.lt he).1⟩, h1, h2⟩, fun h => h.elim (fun h => h.elim h4 fun h => h3 h.1) h5⟩⟩
  by_cases e : i.val = j.val
  · exact h3 (Or.inl (Or.inl e))
  · exact h3 (Or.inl (Or.inr ⟨h, e⟩))

end Cert.ReferenceIdeal.Hop

end
-- ==== Proof.Value.ReferenceAnswer.lean ====
/- What the reference computes: for each node, the answer in plain terms. -/
module

public import proofs.«01_k».proof.Proof.Value.Reference

@[expose] public section

set_option maxRecDepth 16384

noncomputable section

namespace Cert.ReferenceIdeal.Hop

open Cert.ReferenceIdeal Cert.ReferenceIdeal.Value Cert.Hops
open Cert.ReferenceIdeal.Gen
open Idealize.ShloMosaic Idealize.ShloMosaic.TcCoe Idealize.ShloMosaic.StableHlo

variable (V0 : Valuation τ sig (Elt Ideal))

/-- The features the run is given. -/
abbrev nodes : S10000x128.Idx → EReal := V0 (Proc.devRef .tc main_arg0)

/-- The weights it is given, its attention weights normalised. -/
def weights : Weights where
  w0 h d := (V0 (Proc.devRef .tc main_arg2) : S64x128.Idx → EReal) (ix2 h d)
  w1 h d := (V0 (Proc.devRef .tc main_arg3) : S64x128.Idx → EReal) (ix2 h d)
  w2 h d := (V0 (Proc.devRef .tc main_arg4) : S64x128.Idx → EReal) (ix2 h d)
  w3 h d := (V0 (Proc.devRef .tc main_arg5) : S64x128.Idx → EReal) (ix2 h d)
  a k := (res_main_v116 V0 : S1x4.Idx → EReal) (ix2 0 k)
  wf q h := (V0 (Proc.devRef .tc main_arg6) : S16x64.Idx → EReal) (ix2 q h)
  b q := (V0 (Proc.devRef .tc main_arg7) : S16.Idx → EReal) (ix1 q)

variable (he : InRange (edges V0))

include he in
/-- The number of a node's neighbours, -/
theorem count1 (i : Fin 10000) :
    (res_main_v47 V0 : S10000x1.Idx → EReal) (ix2 i 0) = hcnt (Hop1 (Edge (edges V0))) i.val := by
  have hg := first_num V0 he
  revert hg
  unfold res_main_v47
  generalize (res_main_v43 V0 : S10000x10000.Idx → EReal) = g
  intro hg
  refine Eq.trans ?_ (hcnt_eq (fun i j h => (h.lt fun _ _ => Edge.lt he).2) _).symm
  pointwise
  exact Finset.sum_congr (M := EReal) rfl fun j _ => hg i j
include he in
/-- of the nodes two hops away, -/
theorem count2 (i : Fin 10000) :
    (res_main_v57 V0 : S10000x1.Idx → EReal) (ix2 i 0) = hcnt (Hop2 (Edge (edges V0))) i.val := by
  have hg := second_num V0 he
  revert hg
  unfold res_main_v57
  generalize (res_main_v44 V0 : S10000x10000.Idx → EReal) = g
  intro hg
  refine Eq.trans ?_ (hcnt_eq (fun i j h => (h.lt fun _ _ => Edge.lt he).2) _).symm
  pointwise
  exact Finset.sum_congr (M := EReal) rfl fun j _ => hg i j
include he in
/-- and of the nodes three hops away. -/
theorem count3 (i : Fin 10000) :
    (res_main_v67 V0 : S10000x1.Idx → EReal) (ix2 i 0) = hcnt (Hop3 (Edge (edges V0))) i.val := by
  have hg := third_num V0 he
  revert hg
  unfold res_main_v67
  generalize (res_main_v45 V0 : S10000x10000.Idx → EReal) = g
  intro hg
  refine Eq.trans ?_ (hcnt_eq (fun i j h => (h.lt fun _ _ => Edge.lt he).2) _).symm
  pointwise
  exact Finset.sum_congr (M := EReal) rfl fun j _ => hg i j

/-- A frontier's row by the features' column is the sum over the frontier. -/
theorem row_sum {R : ℕ → ℕ → Prop} (hR : ∀ i j, R i j → j < 10000) {g : S10000x10000.Idx → EReal}
    (hg : ∀ i j : Fin 10000, g (ix2 i j) = ind (R i.val j.val)) (i : Fin 10000) (d : Fin 128) :
    ∑ j, g (ix2 i j) * nodes V0 (ix2 j d) = hsum R (feat (nodes V0)) i.val d.val := by
  rw [hsum_eq hR]
  exact Finset.sum_congr rfl fun j _ => by rw [hg, feat_apply]

include he in
/-- A node's scores. -/
theorem scores (i : Fin 10000) (q : Fin 16) :
    (res_main_v140 V0 : S10000x16.Idx → EReal) (ix2 i q) = score (weights V0) (Edge (edges V0)) (feat (nodes V0)) i.val q := by
  have hE : Small (Edge (edges V0)) := fun _ _ => Edge.lt he
  have h1 := count1 V0 he
  have h2 := count2 V0 he
  have h3 := count3 V0 he
  have g1 := row_sum V0 (fun i j h => (h.lt hE).2) (first_num V0 he)
  have g2 := row_sum V0 (fun i j h => (h.lt hE).2) (second_num V0 he)
  have g3 := row_sum V0 (fun i j h => (h.lt hE).2) (third_num V0 he)
  unfold score classes mixed hmean weights
  revert h1 h2 h3 g1 g2 g3
  unfold res_main_v140 res_main_v137
  generalize (res_main_v47 V0 : S10000x1.Idx → EReal) = f1
  generalize (res_main_v57 V0 : S10000x1.Idx → EReal) = f2
  generalize (res_main_v67 V0 : S10000x1.Idx → EReal) = f3
  generalize (res_main_v43 V0 : S10000x10000.Idx → EReal) = f4
  generalize (res_main_v44 V0 : S10000x10000.Idx → EReal) = f5
  generalize (res_main_v45 V0 : S10000x10000.Idx → EReal) = f6
  generalize (res_main_v116 V0 : S1x4.Idx → EReal) = a
  intro h1 h2 h3 g1 g2 g3
  pointwise
  have hz : (id (constant (F := Ideal) S_ .f32 0x00000000#32) : S_.Idx → EReal) ix0 = 0 := by
    show constant (F := Ideal) S_ .f32 0x00000000#32 ix0 = 0
    pointwise
  simp only [feat_apply, ← h1, ← h2, ← h3, ← g1, ← g2, ← g3]
  rw [hz]
  rfl

/-- The largest entry of each row. -/
theorem row_top (f : FVec Ideal S10000x16 .f32) (i : Fin 10000) :
    (Host.reduce FloatOps.maximumf f (constant S_ .f32 0xFF800000#32) reducesTo_S10000x16_S10000_d1 h_S_ : FVec Ideal S10000 .f32) (ix1 i)
      = top fun q => f (ix2 i q) := by
  pointwise
  rfl

/-- The scores, normalised. -/
theorem normalised (i : Fin 10000) (q : Fin 16) :
    (subf (res_main_call3_v5 V0) (broadcastInDim S10000x16 ![0, 1] bcast_S10000x1_S10000x16_0_1
      (Host.log (broadcastInDim S10000x1 ![0] bcast_S10000_S10000x1_0 (Host.reduceAdd (Host.exp (res_main_call3_v5 V0))
        (constant S_ .f32 0x00000000#32) reducesTo_S10000x16_S10000_d1 h_S_)))) : S10000x16.Idx → EReal) (ix2 i q)
      = answer (fun q => (res_main_v140 V0 : S10000x16.Idx → EReal) (ix2 i q)) q := by
  unfold res_main_call3_v5
  generalize (res_main_v140 V0 : S10000x16.Idx → EReal) = f
  have hm := row_top f
  revert hm
  generalize (Host.reduce FloatOps.maximumf f (constant S_ .f32 0xFF800000#32) reducesTo_S10000x16_S10000_d1 h_S_ : FVec Ideal S10000 .f32) = t
  intro hm
  pointwise
  simp only [hm, max_top]
  rfl

include he in
/-- Each element of the result. -/
theorem result (i : Fin 10000) (q : Fin 16) :
    (subf (res_main_call3_v5 V0) (broadcastInDim S10000x16 ![0, 1] bcast_S10000x1_S10000x16_0_1
      (Host.log (broadcastInDim S10000x1 ![0] bcast_S10000_S10000x1_0 (Host.reduceAdd (Host.exp (res_main_call3_v5 V0))
        (constant S_ .f32 0x00000000#32) reducesTo_S10000x16_S10000_d1 h_S_)))) : S10000x16.Idx → EReal) (ix2 i q)
      = answer (score (weights V0) (Edge (edges V0)) (feat (nodes V0)) i.val) q :=
  (normalised V0 i q).trans (congrArg (fun f => answer f q) (funext fun q => scores V0 he i q))

end Cert.ReferenceIdeal.Hop

end
-- ==== Proof.Value.Equation.lean ====
/- The equation: at the ideal numbers, from the same arguments, the kernel and the reference end with the same answers. -/
module

public import proofs.«01_k».proof.Defs
public import proofs.«01_k».proof.Proof.Gen.Kernel
public import proofs.«01_k».proof.Proof.Gen.Pre_edges_in_range
public import proofs.«01_k».proof.Proof.Value.Fold
public import proofs.«01_k».proof.Proof.Value.ReferenceAnswer
public import proofs.«01_k».proof.Proof.Gen.ReferenceIdeal.Run
public import Idealize.ShloMosaic.Lib.ReduceAll
public import Idealize.ShloMosaic.Lib.WordCmp

@[expose] public section

set_option maxRecDepth 16384

noncomputable section

namespace Cert.Proof

open Cert.Hops
open Idealize.ShloMosaic Idealize.ShloMosaic.TcCoe Idealize.ShloMosaic.StableHlo

/-- The precondition, read: every endpoint of an edge is a node. -/
theorem inRange_of_pre {m : (ℓ : Loc Cert.KernelIdeal.nD Cert.KernelIdeal.τ Cert.KernelIdeal.sig) → Buf (Elt Ideal) ℓ}
    (h : Cert.Pre_KernelIdeal_edges_in_range m) (c : Dev Cert.KernelIdeal.nD) : InRange (Cert.KernelIdeal.Hop.edges m c) := by
  intro r k
  have e := Host.reduce_andi_all (t := Cert.Pre_edges_in_range.S_) _ _ _ _ _ (congrFun (h c) (fun a => a.elim0)) (ix2 r k)
  have e' : IntOp.andi (IntOp.cmpi .sge (Cert.KernelIdeal.Hop.edges m c (ix2 r k)) 0#32)
      (IntOp.cmpi .slt (Cert.KernelIdeal.Hop.edges m c (ix2 r k)) (BitVec.ofNat 32 10000)) = 1#1 := e
  rw [WordCmp.andi_sge_zero_slt_ofNat (by decide)] at e'
  by_contra hc
  rw [decide_eq_false hc] at e'
  exact absurd e' (by decide)

/-- Weights equal entry by entry are equal. -/
theorem same_weights {w w' : Weights} (h0 : ∀ h d, w.w0 h d = w'.w0 h d) (h1 : ∀ h d, w.w1 h d = w'.w1 h d)
    (h2 : ∀ h d, w.w2 h d = w'.w2 h d) (h3 : ∀ h d, w.w3 h d = w'.w3 h d) (ha : ∀ k, w.a k = w'.a k)
    (hf : ∀ q h, w.wf q h = w'.wf q h) (hb : ∀ q, w.b q = w'.b q) : w = w' := by
  obtain ⟨u0, u1, u2, u3, a, f, b⟩ := w
  obtain rfl : u0 = w'.w0 := funext fun h => funext (h0 h)
  obtain rfl : u1 = w'.w1 := funext fun h => funext (h1 h)
  obtain rfl : u2 = w'.w2 := funext fun h => funext (h2 h)
  obtain rfl : u3 = w'.w3 := funext fun h => funext (h3 h)
  obtain rfl : a = w'.a := funext ha
  obtain rfl : f = w'.wf := funext fun q => funext (hf q)
  obtain rfl : b = w'.b := funext hb
  rfl

section Same
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (ρ : Dev Cert.KernelIdeal.nD → PrngReg) (c : Dev Cert.KernelIdeal.nD)

/-- Both programs normalise the attention weights by the same lines. -/
theorem attention (h : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)) :
    (Cert.KernelIdeal.Hop.V5 m ρ c Cert.KernelIdeal.main_v31 : Cert.KernelIdeal.S1x4.Idx → EReal)
      = (Cert.ReferenceIdeal.Value.res_main_v116 (launchContents m' c) : Cert.KernelIdeal.S1x4.Idx → EReal) := by
  unfold Cert.KernelIdeal.Hop.V5 Cert.KernelIdeal.Hop.W5
  after_reads_simp
  unfold Cert.ReferenceIdeal.Value.res_main_v116 Cert.ReferenceIdeal.Value.res_main_v113
  have e : Cert.KernelIdeal.Hop.W4 m ρ c (Proc.devRef .tc Cert.KernelIdeal.main_arg8)
      = launchContents m' c (Proc.devRef .tc Cert.ReferenceIdeal.main_arg8) :=
    (Cert.KernelIdeal.Hop.W4_args m ρ c Cert.KernelIdeal.main_arg8 (by decide)).trans h.symm
  rw [e]

/-- From the same arguments, the reference's answers are the kernel's. -/
theorem answers (he : InRange (Cert.KernelIdeal.Hop.edges m c))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (i : Fin 10000) (q : Fin 16) :
    answer (score (Cert.ReferenceIdeal.Hop.weights (launchContents m' c)) (Edge (Cert.ReferenceIdeal.Hop.edges (launchContents m' c)))
        (feat (Cert.ReferenceIdeal.Hop.nodes (launchContents m' c))) i.val) q
      = (Cert.KernelIdeal.Hop.W7 m ρ c (Proc.devRef .tc Cert.KernelIdeal.main_v39) : Cert.KernelIdeal.S10000x16.Idx → EReal) (ix2 i q) := by
  refine Eq.trans ?_ (Cert.KernelIdeal.Hop.result m ρ c he i q).symm
  have ew : Cert.ReferenceIdeal.Hop.weights (launchContents m' c) = Cert.KernelIdeal.Hop.weights m ρ c :=
    same_weights (fun h d => congrFun h2 (ix2 h d)) (fun h d => congrFun h3 (ix2 h d)) (fun h d => congrFun h4 (ix2 h d))
      (fun h d => congrFun h5 (ix2 h d)) (fun k => (congrFun (attention ρ c h8) (ix2 0 k)).symm)
      (fun q h => congrFun h6 (ix2 q h)) (fun q => congrFun h7 (ix1 q))
  have ee : Cert.ReferenceIdeal.Hop.edges (launchContents m' c) = Cert.KernelIdeal.Hop.edges m c := h1
  have ex : Cert.ReferenceIdeal.Hop.nodes (launchContents m' c) = Cert.KernelIdeal.Hop.nodes m c := h0
  rw [ew, ee, ex]

end Same

/-- At the ideal numbers, whenever the edges name nodes of the graph, the kernel ends with the reference's result. -/
theorem algebraic : Cert.algebraic_KernelIdeal_ReferenceIdeal_pre_edges_in_range := by
  intro m g m' g' hpre hargs
  refine ⟨fun c => Cert.KernelIdeal.Hop.W7 m g c (Proc.devRef .tc Cert.KernelIdeal.main_v39), ?_, ?_⟩
  · refine (θ_run _ _ _).mono (fun r h c => ?_) (Cert.KernelIdeal.Hop.run_main m g)
    exact ⟨(h.1 c).2, (h.1 c).1⟩
  · refine (θ_run _ _ _).mono (fun r h c => ⟨(h c).1.trans ?_, (h c).2⟩) (Cert.ReferenceIdeal.Value.run m' g')
    obtain ⟨h0, h1, h2, h3, h4, h5, h6, h7, h8⟩ := hargs c
    have he := inRange_of_pre hpre c
    have he' : InRange (Cert.ReferenceIdeal.Hop.edges (launchContents m' c)) :=
      (show Cert.ReferenceIdeal.Hop.edges (launchContents m' c) = Cert.KernelIdeal.Hop.edges m c from h1) ▸ he
    funext y
    have hy : ∃ (i : Fin 10000) (q : Fin 16), y = ix2 i q := exists_ix2 y
    obtain ⟨i, q, rfl⟩ := hy
    exact (Cert.ReferenceIdeal.Hop.result (launchContents m' c) he' i q).trans
      (answers g c he h0 h1 h2 h3 h4 h5 h6 h7 h8 i q)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges_in_range
public import proofs.«01_k».proof.Proof.Frames
public import proofs.«01_k».proof.Proof.Value.Equation
public import Idealize.ShloMosaic.Adequacy
public import Idealize.ShloMosaic.Init

@[expose] public section

noncomputable section

namespace Cert.Proof

open Idealize.ShloMosaic Idealize.SL.Sem

/-- Everything claimed: the frames of the kernel, of its idealization and of the reference, that nothing was rewritten
    between the first two, and that at the ideal numbers the kernel's result is the reference's whenever the edges name
    nodes of the graph. -/
theorem claim : Cert.Claim := ⟨Cert.Kernel.Gen.facts, Cert.KernelIdeal.Gen.facts, Cert.ReferenceIdeal.Gen.facts,
  Cert.Pre_edges_in_range.Gen.facts, frame_kernel, frame_kernelIdeal, fun m ρ _ => frame_kernelIdeal m ρ trivial,
  frame_referenceIdeal, fun m ρ _ => frame_referenceIdeal m ρ trivial, trivial, algebraic⟩

end Cert.Proof

end
